-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_ones [hPre_finite_and_ones : Cert.Pre_finite_and_ones.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_ones.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_ones [hPre_finite_and_ones : Cert.Pre_finite_and_ones.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_ones.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_ones [hKernelIdeal : Cert.KernelIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_ones m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_ones [hReferenceIdeal : Cert.ReferenceIdeal.Facts] [hPre_finite_and_ones : Cert.Pre_finite_and_ones.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_ones m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  True

def algebraic_KernelIdeal_ReferenceIdeal_pre_finite_and_ones [hKernelIdeal : Cert.KernelIdeal.Facts] [hReferenceIdeal : Cert.ReferenceIdeal.Facts] [hPre_finite_and_ones : Cert.Pre_finite_and_ones.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_ones m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v88) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v13)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v13) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v111) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_and_ones : Cert.Pre_finite_and_ones.Facts),
    quiescent_Kernel (hKernel := hKernel)
    ∧ quiescent_KernelIdeal (hKernelIdeal := hKernelIdeal)
    ∧ quiescent_KernelIdeal_pre_finite_and_ones (hKernelIdeal := hKernelIdeal) (hPre_finite_and_ones := hPre_finite_and_ones)
    ∧ quiescent_ReferenceIdeal (hReferenceIdeal := hReferenceIdeal)
    ∧ quiescent_ReferenceIdeal_pre_finite_and_ones (hReferenceIdeal := hReferenceIdeal) (hPre_finite_and_ones := hPre_finite_and_ones)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_and_ones (hKernelIdeal := hKernelIdeal) (hReferenceIdeal := hReferenceIdeal) (hPre_finite_and_ones := hPre_finite_and_ones)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_and_ones.lean ====
abbrev S33x256x512 : Shape := ⟨3, ![33, 256, 512]⟩
abbrev S16896x128 : Shape := ⟨2, ![16896, 128]⟩
abbrev S33x2x80x512 : Shape := ⟨4, ![33, 2, 80, 512]⟩
abbrev S_ : Shape := ⟨0, ![]⟩
abbrev S33x2x1x512 : Shape := ⟨4, ![33, 2, 1, 512]⟩
abbrev S33x2x512 : Shape := ⟨3, ![33, 2, 512]⟩

class Facts : Prop where
  bitsLt_bf16_f32 : FTy.bits .bf16 < FTy.bits .f32
  bcast_S_S33x256x512 : S_.BroadcastsInDim S33x256x512 (![] : Fin 0 → Fin S33x256x512.rank)
  reducesTo_S33x256x512_S_d0_1_2 : S33x256x512.ReducesTo [0, 1, 2] S_
  h_S_ : 0 < S_.numel
  bcast_S_S16896x128 : S_.BroadcastsInDim S16896x128 (![] : Fin 0 → Fin S16896x128.rank)
  reducesTo_S16896x128_S_d0_1 : S16896x128.ReducesTo [0, 1] S_
  slices_S33x2x80x512_S33x2x1x512_0_0_64_0 : S33x2x80x512.Slices ![0, 0, 64, 0] S33x2x1x512
  shapeCasts_S33x2x1x512_S33x2x512 : S33x2x1x512.ShapeCasts S33x2x512
  bcast_S_S33x2x512 : S_.BroadcastsInDim S33x2x512 (![] : Fin 0 → Fin S33x2x512.rank)
  reducesTo_S33x2x512_S_d0_1_2 : S33x2x512.ReducesTo [0, 1, 2] S_

variable [Facts]

def fn {F : FTy → Type} [FloatOps F] (main_arg0 : FVec F S33x256x512 .bf16) (main_arg1 : FVec F S16896x128 .bf16) (main_arg2 : FVec F S33x2x80x512 .bf16) : IVec S_ 1 :=
  let main_v0 : FVec F S33x256x512 .f32 := (extf .f32 · bitsLt_bf16_f32) main_arg0
  let main_v1 : FVec F S33x256x512 .f32 := Host.absf main_v0
  let main_cst : FVec F S_ .f32 := constant S_ .f32 0x7F800000#32
  let main_v2 : FVec F S33x256x512 .f32 := broadcastInDim S33x256x512 ![] bcast_S_S33x256x512 main_cst
  let main_v3 : IVec S33x256x512 1 := cmpf .olt main_v1 main_v2
  let main_c : IVec S_ 1 := constantI S_ 1 1#1
  let main_v4 : IVec S_ 1 := (fun x v => Host.reduce IntOp.andi x v reducesTo_S33x256x512_S_d0_1_2 h_S_) main_v3 main_c
  let main_v5 : FVec F S16896x128 .f32 := (extf .f32 · bitsLt_bf16_f32) main_arg1
  let main_v6 : FVec F S16896x128 .f32 := Host.absf main_v5
  let main_cst_0 : FVec F S_ .f32 := constant S_ .f32 0x7F800000#32
  let main_v7 : FVec F S16896x128 .f32 := broadcastInDim S16896x128 ![] bcast_S_S16896x128 main_cst_0
  let main_v8 : IVec S16896x128 1 := cmpf .olt main_v6 main_v7
  let main_c_1 : IVec S_ 1 := constantI S_ 1 1#1
  let main_v9 : IVec S_ 1 := (fun x v => Host.reduce IntOp.andi x v reducesTo_S16896x128_S_d0_1 h_S_) main_v8 main_c_1
  let main_v10 : IVec S_ 1 := andi main_v4 main_v9
  let main_v11 : FVec F S33x2x1x512 .bf16 := (extractStridedSlice S33x2x1x512 ![0, 0, 64, 0] · slices_S33x2x80x512_S33x2x1x512_0_0_64_0) main_arg2
  let main_v12 : FVec F S33x2x512 .bf16 := shapeCast S33x2x512 main_v11 shapeCasts_S33x2x1x512_S33x2x512
  let main_v13 : FVec F S33x2x512 .f32 := (extf .f32 · bitsLt_bf16_f32) main_v12
  let main_cst_2 : FVec F S_ .f32 := constant S_ .f32 0x3F800000#32
  let main_v14 : FVec F S33x2x512 .f32 := broadcastInDim S33x2x512 ![] bcast_S_S33x2x512 main_cst_2
  let main_v15 : IVec S33x2x512 1 := cmpf .oeq main_v13 main_v14
  let main_c_3 : IVec S_ 1 := constantI S_ 1 1#1
  let main_v16 : IVec S_ 1 := (fun x v => Host.reduce IntOp.andi x v reducesTo_S33x2x512_S_d0_1_2 h_S_) main_v15 main_c_3
  let main_v17 : IVec S_ 1 := andi main_v10 main_v16
  main_v17
-- ==== Kernel.lean ====
abbrev S33x256x512 : Shape := ⟨3, ![33, 256, 512]⟩
abbrev S16896x128 : Shape := ⟨2, ![16896, 128]⟩
abbrev S33x2x80x512 : Shape := ⟨4, ![33, 2, 80, 512]⟩
abbrev S16384x256 : Shape := ⟨2, ![16384, 256]⟩
abbrev S1x256x512 : Shape := ⟨3, ![1, 256, 512]⟩
abbrev S8192x128 : Shape := ⟨2, ![8192, 128]⟩
abbrev S16x2x80x512 : Shape := ⟨4, ![16, 2, 80, 512]⟩
abbrev S256x128 : Shape := ⟨2, ![256, 128]⟩
abbrev S1x2x80x256 : Shape := ⟨4, ![1, 2, 80, 256]⟩
abbrev S512x256 : Shape := ⟨2, ![512, 256]⟩
abbrev S2x512x1024 : Shape := ⟨3, ![2, 512, 1024]⟩
abbrev S256x512 : Shape := ⟨2, ![256, 512]⟩
abbrev S64x512 : Shape := ⟨2, ![64, 512]⟩
abbrev S128x512 : Shape := ⟨2, ![128, 512]⟩
abbrev S128x1024 : Shape := ⟨2, ![128, 1024]⟩
abbrev S1x1024 : Shape := ⟨2, ![1, 1024]⟩
abbrev S64x1024 : Shape := ⟨2, ![64, 1024]⟩
abbrev S512x128 : Shape := ⟨2, ![512, 128]⟩
abbrev S512x1024 : Shape := ⟨2, ![512, 1024]⟩
abbrev S1x512x1024 : Shape := ⟨3, ![1, 512, 1024]⟩
abbrev S1x1x80x512 : Shape := ⟨4, ![1, 1, 80, 512]⟩
abbrev S80x512 : Shape := ⟨2, ![80, 512]⟩
abbrev S80x1024 : Shape := ⟨2, ![80, 1024]⟩
abbrev S256x1024 : Shape := ⟨2, ![256, 1024]⟩
abbrev S1x256x1024 : Shape := ⟨3, ![1, 256, 1024]⟩
abbrev S1x1x80x256 : Shape := ⟨4, ![1, 1, 80, 256]⟩
abbrev S80x256 : Shape := ⟨2, ![80, 256]⟩

abbrev nBuf : Space → Nat
  | .hbm => 4
  | .vmem => 14
  | .smem => 0
  | _ => 0

abbrev bufTy : (tb : Table) → Fin (tcTables nBuf tb) → BufTy
  | .hbm, ⟨0, _⟩ => ⟨S33x256x512, .bf16⟩
  | .hbm, ⟨1, _⟩ => ⟨S16896x128, .bf16⟩
  | .hbm, ⟨2, _⟩ => ⟨S33x2x80x512, .bf16⟩
  | .hbm, ⟨3, _⟩ => ⟨S16384x256, .bf16⟩
  | .local _ .vmem, ⟨0, _⟩ => ⟨S1x256x512, .bf16⟩
  | .local _ .vmem, ⟨1, _⟩ => ⟨S1x256x512, .bf16⟩
  | .local _ .vmem, ⟨2, _⟩ => ⟨S8192x128, .bf16⟩
  | .local _ .vmem, ⟨3, _⟩ => ⟨S8192x128, .bf16⟩
  | .local _ .vmem, ⟨4, _⟩ => ⟨S16x2x80x512, .bf16⟩
  | .local _ .vmem, ⟨5, _⟩ => ⟨S16x2x80x512, .bf16⟩
  | .local _ .vmem, ⟨6, _⟩ => ⟨S256x128, .bf16⟩
  | .local _ .vmem, ⟨7, _⟩ => ⟨S256x128, .bf16⟩
  | .local _ .vmem, ⟨8, _⟩ => ⟨S1x2x80x256, .bf16⟩
  | .local _ .vmem, ⟨9, _⟩ => ⟨S1x2x80x256, .bf16⟩
  | .local _ .vmem, ⟨10, _⟩ => ⟨S512x256, .bf16⟩
  | .local _ .vmem, ⟨11, _⟩ => ⟨S512x256, .bf16⟩
  | .local _ .vmem, ⟨12, _⟩ => ⟨S2x512x1024, .bf16⟩
  | .local _ .vmem, ⟨13, _⟩ => ⟨S2x512x1024, .bf16⟩
  | _, _ => ⟨S33x256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def k0_mult1 : BitVec 32 :=
  let c0_i32 : BitVec 32 := 0#32
  c0_i32
def k0_mult2 : BitVec 32 :=
  let c2_i32 : BitVec 32 := 2#32
  let c4_i32 : BitVec 32 := 4#32
  let c0_i32_14 : BitVec 32 := 0#32
  let v32 : BitVec 32 := Scalar.muli c4_i32 c0_i32_14
  let c0_i32_15 : BitVec 32 := 0#32
  let v33 : BitVec 32 := Scalar.addi v32 c0_i32_15
  let v34 : BitVec 32 := Scalar.muli c2_i32 v33
  let c1_i32 : BitVec 32 := 1#32
  let v35 : BitVec 32 := Scalar.addi v34 c1_i32
  let c512_i32 : BitVec 32 := 512#32
  let v36 : BitVec 32 := Scalar.muli v35 c512_i32
  v36
def k0_off1 (c0_i32_15 : BitVec 32) (c1_i32 : BitVec 32) : Fin 2 → Nat :=
  let c2_i32 : BitVec 32 := 2#32
  let c4_i32 : BitVec 32 := 4#32
  let c0_i32_14 : BitVec 32 := 0#32
  let v32 : BitVec 32 := Scalar.muli c4_i32 c0_i32_14
  let v33 : BitVec 32 := Scalar.addi v32 c0_i32_15
  let v34 : BitVec 32 := Scalar.muli c2_i32 v33
  let v35 : BitVec 32 := Scalar.addi v34 c1_i32
  let c512_i32 : BitVec 32 := 512#32
  let v36 : BitVec 32 := Scalar.muli v35 c512_i32
  let v37 : BitVec 32 := v36
  let v38 : Index := Scalar.indexCast v37
  let c0_16 : Index := 0#32
  ![v38.toNat, 0]
def k0_off2 (c0_i32_15 : BitVec 32) : Fin 4 → Nat :=
  let c2_i32 : BitVec 32 := 2#32
  let c4_i32 : BitVec 32 := 4#32
  let c0_i32_14 : BitVec 32 := 0#32
  let v32 : BitVec 32 := Scalar.muli c4_i32 c0_i32_14
  let v33 : BitVec 32 := Scalar.addi v32 c0_i32_15
  let v34 : BitVec 32 := Scalar.muli c2_i32 v33
  let v54 : Index := Scalar.indexCast v34
  let c0_28 : Index := 0#32
  let c0_29 : Index := 0#32
  let c0_30 : Index := 0#32
  ![v54.toNat, 0, 0, 0]
def k0_off3 (c0_i32_15 : BitVec 32) : Fin 4 → Nat :=
  let c2_i32 : BitVec 32 := 2#32
  let c4_i32 : BitVec 32 := 4#32
  let c0_i32_14 : BitVec 32 := 0#32
  let v32 : BitVec 32 := Scalar.muli c4_i32 c0_i32_14
  let v33 : BitVec 32 := Scalar.addi v32 c0_i32_15
  let v34 : BitVec 32 := Scalar.muli c2_i32 v33
  let v64 : Index := Scalar.indexCast v34
  let c1_35 : Index := 1#32
  let c0_36 : Index := 0#32
  let c0_37 : Index := 0#32
  ![v64.toNat, 1, 0, 0]
def k0_mult3 : BitVec 32 :=
  let c2_i32 : BitVec 32 := 2#32
  let c4_i32 : BitVec 32 := 4#32
  let c0_i32_14 : BitVec 32 := 0#32
  let v32 : BitVec 32 := Scalar.muli c4_i32 c0_i32_14
  let c0_i32_15 : BitVec 32 := 0#32
  let v33 : BitVec 32 := Scalar.addi v32 c0_i32_15
  let v34 : BitVec 32 := Scalar.muli c2_i32 v33
  let c2_i32_39 : BitVec 32 := 2#32
  let v72 : BitVec 32 := Scalar.addi v34 c2_i32_39
  let c512_i32_40 : BitVec 32 := 512#32
  let v73 : BitVec 32 := Scalar.muli v72 c512_i32_40
  v73
def k0_off4 (c0_i32_15 : BitVec 32) : Fin 4 → Nat :=
  let c2_i32 : BitVec 32 := 2#32
  let c4_i32 : BitVec 32 := 4#32
  let c0_i32_14 : BitVec 32 := 0#32
  let v32 : BitVec 32 := Scalar.muli c4_i32 c0_i32_14
  let v33 : BitVec 32 := Scalar.addi v32 c0_i32_15
  let v34 : BitVec 32 := Scalar.muli c2_i32 v33
  let c1_i32_50 : BitVec 32 := 1#32
  let v89 : BitVec 32 := Scalar.addi v34 c1_i32_50
  let v92 : Index := Scalar.indexCast v89
  let c0_54 : Index := 0#32
  let c0_55 : Index := 0#32
  let c0_56 : Index := 0#32
  ![v92.toNat, 0, 0, 0]
def k0_off5 (c0_i32_15 : BitVec 32) : Fin 4 → Nat :=
  let c2_i32 : BitVec 32 := 2#32
  let c4_i32 : BitVec 32 := 4#32
  let c0_i32_14 : BitVec 32 := 0#32
  let v32 : BitVec 32 := Scalar.muli c4_i32 c0_i32_14
  let v33 : BitVec 32 := Scalar.addi v32 c0_i32_15
  let v34 : BitVec 32 := Scalar.muli c2_i32 v33
  let c1_i32_50 : BitVec 32 := 1#32
  let v89 : BitVec 32 := Scalar.addi v34 c1_i32_50
  let v102 : Index := Scalar.indexCast v89
  let c1_61 : Index := 1#32
  let c0_62 : Index := 0#32
  let c0_63 : Index := 0#32
  ![v102.toNat, 1, 0, 0]
def k0_mult4 : BitVec 32 :=
  let c2_i32_67 : BitVec 32 := 2#32
  let c4_i32_65 : BitVec 32 := 4#32
  let c0_i32_14 : BitVec 32 := 0#32
  let v110 : BitVec 32 := Scalar.muli c4_i32_65 c0_i32_14
  let c1_i32_66 : BitVec 32 := 1#32
  let v111 : BitVec 32 := Scalar.addi v110 c1_i32_66
  let v112 : BitVec 32 := Scalar.muli c2_i32_67 v111
  let c1_i32_68 : BitVec 32 := 1#32
  let v113 : BitVec 32 := Scalar.addi v112 c1_i32_68
  let c512_i32_69 : BitVec 32 := 512#32
  let v114 : BitVec 32 := Scalar.muli v113 c512_i32_69
  v114
def k0_mult5 : BitVec 32 :=
  let c2_i32_67 : BitVec 32 := 2#32
  let c4_i32_65 : BitVec 32 := 4#32
  let c0_i32_14 : BitVec 32 := 0#32
  let v110 : BitVec 32 := Scalar.muli c4_i32_65 c0_i32_14
  let c1_i32_66 : BitVec 32 := 1#32
  let v111 : BitVec 32 := Scalar.addi v110 c1_i32_66
  let v112 : BitVec 32 := Scalar.muli c2_i32_67 v111
  let c2_i32_93 : BitVec 32 := 2#32
  let v150 : BitVec 32 := Scalar.addi v112 c2_i32_93
  let c512_i32_94 : BitVec 32 := 512#32
  let v151 : BitVec 32 := Scalar.muli v150 c512_i32_94
  v151
def k0_mult6 : BitVec 32 :=
  let c2_i32_121 : BitVec 32 := 2#32
  let c4_i32_119 : BitVec 32 := 4#32
  let c0_i32_14 : BitVec 32 := 0#32
  let v188 : BitVec 32 := Scalar.muli c4_i32_119 c0_i32_14
  let c2_i32_120 : BitVec 32 := 2#32
  let v189 : BitVec 32 := Scalar.addi v188 c2_i32_120
  let v190 : BitVec 32 := Scalar.muli c2_i32_121 v189
  let c1_i32_122 : BitVec 32 := 1#32
  let v191 : BitVec 32 := Scalar.addi v190 c1_i32_122
  let c512_i32_123 : BitVec 32 := 512#32
  let v192 : BitVec 32 := Scalar.muli v191 c512_i32_123
  v192
def k0_mult7 : BitVec 32 :=
  let c2_i32_121 : BitVec 32 := 2#32
  let c4_i32_119 : BitVec 32 := 4#32
  let c0_i32_14 : BitVec 32 := 0#32
  let v188 : BitVec 32 := Scalar.muli c4_i32_119 c0_i32_14
  let c2_i32_120 : BitVec 32 := 2#32
  let v189 : BitVec 32 := Scalar.addi v188 c2_i32_120
  let v190 : BitVec 32 := Scalar.muli c2_i32_121 v189
  let c2_i32_147 : BitVec 32 := 2#32
  let v228 : BitVec 32 := Scalar.addi v190 c2_i32_147
  let c512_i32_148 : BitVec 32 := 512#32
  let v229 : BitVec 32 := Scalar.muli v228 c512_i32_148
  v229
def k0_mult8 : BitVec 32 :=
  let c2_i32_174 : BitVec 32 := 2#32
  let c4_i32_173 : BitVec 32 := 4#32
  let c0_i32_14 : BitVec 32 := 0#32
  let v266 : BitVec 32 := Scalar.muli c4_i32_173 c0_i32_14
  let c3_i32 : BitVec 32 := 3#32
  let v267 : BitVec 32 := Scalar.addi v266 c3_i32
  let v268 : BitVec 32 := Scalar.muli c2_i32_174 v267
  let c1_i32_175 : BitVec 32 := 1#32
  let v269 : BitVec 32 := Scalar.addi v268 c1_i32_175
  let c512_i32_176 : BitVec 32 := 512#32
  let v270 : BitVec 32 := Scalar.muli v269 c512_i32_176
  v270
def k0_mult9 : BitVec 32 :=
  let c2_i32_174 : BitVec 32 := 2#32
  let c4_i32_173 : BitVec 32 := 4#32
  let c0_i32_14 : BitVec 32 := 0#32
  let v266 : BitVec 32 := Scalar.muli c4_i32_173 c0_i32_14
  let c3_i32 : BitVec 32 := 3#32
  let v267 : BitVec 32 := Scalar.addi v266 c3_i32
  let v268 : BitVec 32 := Scalar.muli c2_i32_174 v267
  let c2_i32_200 : BitVec 32 := 2#32
  let v306 : BitVec 32 := Scalar.addi v268 c2_i32_200
  let c512_i32_201 : BitVec 32 := 512#32
  let v307 : BitVec 32 := Scalar.muli v306 c512_i32_201
  v307
def k0_mult10 : BitVec 32 :=
  let c4608_i32 : BitVec 32 := 4608#32
  c4608_i32
def k0_mult11 : BitVec 32 :=
  let c5120_i32 : BitVec 32 := 5120#32
  c5120_i32
def k0_mult12 : BitVec 32 :=
  let c5632_i32 : BitVec 32 := 5632#32
  c5632_i32
def k0_mult13 : BitVec 32 :=
  let c6144_i32 : BitVec 32 := 6144#32
  c6144_i32
def k0_mult14 : BitVec 32 :=
  let c6656_i32 : BitVec 32 := 6656#32
  c6656_i32
def k0_mult15 : BitVec 32 :=
  let c7168_i32 : BitVec 32 := 7168#32
  c7168_i32
def k0_mult16 : BitVec 32 :=
  let c7680_i32 : BitVec 32 := 7680#32
  c7680_i32
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.divsi arg1 c1_i32
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c0_i32_1 : BitVec 32 := 0#32
  let v7 : BitVec 1 := Scalar.cmpi .sgt c1_i32 c0_i32_1
  let v8 : BitVec 32 := Scalar.extui v7
  let c0_i32_2 : BitVec 32 := 0#32
  let v9 : BitVec 1 := Scalar.cmpi .slt c1_i32 c0_i32_2
  let v10 : BitVec 32 := Scalar.extui v9
  let v11 : BitVec 32 := Scalar.subi v8 v10
  let v12 : BitVec 1 := Scalar.cmpi .ne v6 v11
  let v13 : BitVec 32 := Scalar.remsi arg1 c1_i32
  let c0_i32_3 : BitVec 32 := 0#32
  let v14 : BitVec 1 := Scalar.cmpi .ne v13 c0_i32_3
  let v15 : BitVec 1 := Scalar.andi v12 v14
  let c1_i32_4 : BitVec 32 := 1#32
  let v16 : BitVec 32 := Scalar.subi v1 c1_i32_4
  let v17 : BitVec 32 := Scalar.select v15 v16 v1
  let v18 : BitVec 32 := Scalar.addi v0 v17
  let c1_i32_5 : BitVec 32 := 1#32
  let c0_i32_6 : BitVec 32 := 0#32
  let v19 : BitVec 1 := Scalar.cmpi .eq c1_i32_5 c0_i32_6
  let c1_i32_7 : BitVec 32 := 1#32
  let v20 : BitVec 32 := Scalar.select v19 c1_i32_7 c1_i32_5
  let v21 : BitVec 32 := Scalar.remsi arg1 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v18.toNat, c0_i32_11.toNat, v28.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let arg1 : BitVec 32 := BitVec.ofNat 32 (i 1).val
  let c256_i32 : BitVec 32 := 256#32
  let v0 : BitVec 32 := Scalar.muli arg0 c256_i32
  let c512_i32 : BitVec 32 := 512#32
  let v1 : BitVec 32 := Scalar.divsi v0 c512_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c512_i32 c0_i32_1
  let v8 : BitVec 32 := Scalar.extui v7
  let c0_i32_2 : BitVec 32 := 0#32
  let v9 : BitVec 1 := Scalar.cmpi .slt c512_i32 c0_i32_2
  let v10 : BitVec 32 := Scalar.extui v9
  let v11 : BitVec 32 := Scalar.subi v8 v10
  let v12 : BitVec 1 := Scalar.cmpi .ne v6 v11
  let v13 : BitVec 32 := Scalar.remsi v0 c512_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c32_i32 : BitVec 32 := 32#32
  let v18 : BitVec 32 := Scalar.addi c32_i32 v17
  let c256_i32_4 : BitVec 32 := 256#32
  let v19 : BitVec 32 := Scalar.muli arg0 c256_i32_4
  let c512_i32_5 : BitVec 32 := 512#32
  let c0_i32_6 : BitVec 32 := 0#32
  let v20 : BitVec 1 := Scalar.cmpi .eq c512_i32_5 c0_i32_6
  let c1_i32_7 : BitVec 32 := 1#32
  let v21 : BitVec 32 := Scalar.select v20 c1_i32_7 c512_i32_5
  let v22 : BitVec 32 := Scalar.remsi v19 v21
  let c0_i32_8 : BitVec 32 := 0#32
  let v23 : BitVec 1 := Scalar.cmpi .ne v22 c0_i32_8
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let v27 : BitVec 1 := Scalar.andi v26 v23
  let v28 : BitVec 32 := Scalar.addi v22 v21
  let v29 : BitVec 32 := Scalar.select v27 v28 v22
  let c256_i32_11 : BitVec 32 := 256#32
  let v30 : BitVec 32 := Scalar.divsi v29 c256_i32_11
  let c0_i32_12 : BitVec 32 := 0#32
  let v31 : BitVec 1 := Scalar.cmpi .sgt v29 c0_i32_12
  let v32 : BitVec 32 := Scalar.extui v31
  let c0_i32_13 : BitVec 32 := 0#32
  let v33 : BitVec 1 := Scalar.cmpi .slt v29 c0_i32_13
  let v34 : BitVec 32 := Scalar.extui v33
  let v35 : BitVec 32 := Scalar.subi v32 v34
  let c0_i32_14 : BitVec 32 := 0#32
  let v36 : BitVec 1 := Scalar.cmpi .sgt c256_i32_11 c0_i32_14
  let v37 : BitVec 32 := Scalar.extui v36
  let c0_i32_15 : BitVec 32 := 0#32
  let v38 : BitVec 1 := Scalar.cmpi .slt c256_i32_11 c0_i32_15
  let v39 : BitVec 32 := Scalar.extui v38
  let v40 : BitVec 32 := Scalar.subi v37 v39
  let v41 : BitVec 1 := Scalar.cmpi .ne v35 v40
  let v42 : BitVec 32 := Scalar.remsi v29 c256_i32_11
  let c0_i32_16 : BitVec 32 := 0#32
  let v43 : BitVec 1 := Scalar.cmpi .ne v42 c0_i32_16
  let v44 : BitVec 1 := Scalar.andi v41 v43
  let c1_i32_17 : BitVec 32 := 1#32
  let v45 : BitVec 32 := Scalar.subi v30 c1_i32_17
  let v46 : BitVec 32 := Scalar.select v44 v45 v30
  let c0_i32_18 : BitVec 32 := 0#32
  let c0_i32_19 : BitVec 32 := 0#32
  let c0_i32_20 : BitVec 32 := 0#32
  ![v18.toNat, c0_i32_18.toNat, c0_i32_19.toNat, v46.toNat]

def cc0_transform_5 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2x80x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x80x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S33x256x512 : Shape := ⟨3, ![33, 256, 512]⟩
abbrev S16896x128 : Shape := ⟨2, ![16896, 128]⟩
abbrev S33x2x80x512 : Shape := ⟨4, ![33, 2, 80, 512]⟩
abbrev S33x512x256 : Shape := ⟨3, ![33, 512, 256]⟩
abbrev S16896x4x64 : Shape := ⟨3, ![16896, 4, 64]⟩
abbrev S16896x2x64 : Shape := ⟨3, ![16896, 2, 64]⟩
abbrev S33x2x64x512 : Shape := ⟨4, ![33, 2, 64, 512]⟩
abbrev S33x512x2x64 : Shape := ⟨4, ![33, 512, 2, 64]⟩
abbrev S16384x4x64 : Shape := ⟨3, ![16384, 4, 64]⟩
abbrev S2x8192x2x2x64 : Shape := ⟨5, ![2, 8192, 2, 2, 64]⟩
abbrev S16384x2x64 : Shape := ⟨3, ![16384, 2, 64]⟩
abbrev S2x8192x2x64 : Shape := ⟨4, ![2, 8192, 2, 64]⟩
abbrev S512x2x64 : Shape := ⟨3, ![512, 2, 64]⟩
abbrev S2x256x2x64 : Shape := ⟨4, ![2, 256, 2, 64]⟩
abbrev S2x8448x2x64 : Shape := ⟨4, ![2, 8448, 2, 64]⟩
abbrev S2x2x8448x8192x2 : Shape := ⟨5, ![2, 2, 8448, 8192, 2]⟩
abbrev S2x2x2x8192x8448 : Shape := ⟨5, ![2, 2, 2, 8192, 8448]⟩
abbrev S_ : Shape := ⟨0, ![]⟩
abbrev S2x2x2x8192 : Shape := ⟨4, ![2, 2, 2, 8192]⟩
abbrev S2x2x2x8192x1 : Shape := ⟨5, ![2, 2, 2, 8192, 1]⟩
abbrev S2x2x64x2x8192 : Shape := ⟨5, ![2, 2, 64, 2, 8192]⟩
abbrev S16384x256 : Shape := ⟨2, ![16384, 256]⟩

abbrev nBuf : Space → Nat
  | .hbm => 48
  | .vmem => 0
  | .smem => 0
  | _ => 0

abbrev bufTy : (tb : Table) → Fin (tcTables nBuf tb) → BufTy
  | .hbm, ⟨0, _⟩ => ⟨S33x256x512, .bf16⟩
  | .hbm, ⟨1, _⟩ => ⟨S16896x128, .bf16⟩
  | .hbm, ⟨2, _⟩ => ⟨S33x2x80x512, .bf16⟩
  | .hbm, ⟨3, _⟩ => ⟨S33x256x512, .f32⟩
  | .hbm, ⟨4, _⟩ => ⟨S16896x128, .f32⟩
  | .hbm, ⟨5, _⟩ => ⟨S33x2x80x512, .f32⟩
  | .hbm, ⟨6, _⟩ => ⟨S33x512x256, .f32⟩
  | .hbm, ⟨7, _⟩ => ⟨S16896x4x64, .f32⟩
  | .hbm, ⟨8, _⟩ => ⟨S16896x2x64, .f32⟩
  | .hbm, ⟨9, _⟩ => ⟨S33x2x64x512, .f32⟩
  | .hbm, ⟨10, _⟩ => ⟨S33x512x2x64, .f32⟩
  | .hbm, ⟨11, _⟩ => ⟨S16896x2x64, .f32⟩
  | .hbm, ⟨12, _⟩ => ⟨S16384x4x64, .f32⟩
  | .hbm, ⟨13, _⟩ => ⟨S2x8192x2x2x64, .f32⟩
  | .hbm, ⟨14, _⟩ => ⟨S16384x2x64, .f32⟩
  | .hbm, ⟨15, _⟩ => ⟨S2x8192x2x64, .f32⟩
  | .hbm, ⟨16, _⟩ => ⟨S512x2x64, .f32⟩
  | .hbm, ⟨17, _⟩ => ⟨S2x256x2x64, .f32⟩
  | .hbm, ⟨18, _⟩ => ⟨S16384x2x64, .f32⟩
  | .hbm, ⟨19, _⟩ => ⟨S2x8192x2x64, .f32⟩
  | .hbm, ⟨20, _⟩ => ⟨S512x2x64, .f32⟩
  | .hbm, ⟨21, _⟩ => ⟨S2x256x2x64, .f32⟩
  | .hbm, ⟨22, _⟩ => ⟨S2x8448x2x64, .f32⟩
  | .hbm, ⟨23, _⟩ => ⟨S2x8448x2x64, .f32⟩
  | .hbm, ⟨24, _⟩ => ⟨S2x2x8448x8192x2, .f32⟩
  | .hbm, ⟨25, _⟩ => ⟨S2x2x2x8192x8448, .f32⟩
  | .hbm, ⟨26, _⟩ => ⟨S_, .f32⟩
  | .hbm, ⟨27, _⟩ => ⟨S_, .f32⟩
  | .hbm, ⟨28, _⟩ => ⟨S2x2x2x8192x8448, .f32⟩
  | .hbm, ⟨29, _⟩ => ⟨S2x2x2x8192x8448, .f32⟩
  | .hbm, ⟨30, _⟩ => ⟨S_, .f32⟩
  | .hbm, ⟨31, _⟩ => ⟨S2x2x2x8192, .f32⟩
  | .hbm, ⟨32, _⟩ => ⟨S_, .f32⟩
  | .hbm, ⟨33, _⟩ => ⟨S2x2x2x8192, .f32⟩
  | .hbm, ⟨34, _⟩ => ⟨S2x2x2x8192, .f32⟩
  | .hbm, ⟨35, _⟩ => ⟨S2x2x2x8192x1, .f32⟩
  | .hbm, ⟨36, _⟩ => ⟨S2x2x2x8192x8448, .f32⟩
  | .hbm, ⟨37, _⟩ => ⟨S2x2x2x8192x8448, .f32⟩
  | .hbm, ⟨38, _⟩ => ⟨S2x2x2x8192x8448, .f32⟩
  | .hbm, ⟨39, _⟩ => ⟨S_, .f32⟩
  | .hbm, ⟨40, _⟩ => ⟨S2x2x2x8192, .f32⟩
  | .hbm, ⟨41, _⟩ => ⟨S2x2x2x8192x1, .f32⟩
  | .hbm, ⟨42, _⟩ => ⟨S2x2x2x8192x8448, .f32⟩
  | .hbm, ⟨43, _⟩ => ⟨S2x2x2x8192x8448, .f32⟩
  | .hbm, ⟨44, _⟩ => ⟨S2x2x64x2x8192, .f32⟩
  | .hbm, ⟨45, _⟩ => ⟨S2x8192x2x2x64, .f32⟩
  | .hbm, ⟨46, _⟩ => ⟨S16384x256, .f32⟩
  | .hbm, ⟨47, _⟩ => ⟨S16384x256, .bf16⟩
  | _, _ => ⟨S33x256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_v26 : Ref sig .tc := ⟨.hbm, 31, rfl⟩
abbrev main_cst_1 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩

abbrev nD : Nat := 1
abbrev τ : Topo := Topo.v7x

variable {F : FTy → Type} [FloatOps F]
-- ==== Kernel2.lean ====
abbrev S2x8192x1024 : Shape := ⟨3, ![2, 8192, 1024]⟩
abbrev S2x256x1024 : Shape := ⟨3, ![2, 256, 1024]⟩
abbrev S2x8x9x1024 : Shape := ⟨4, ![2, 8, 9, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S2x3x1x1024 : Shape := ⟨4, ![2, 3, 1, 1024]⟩
abbrev S16384x1024 : Shape := ⟨2, ![16384, 1024]⟩
abbrev S512x1024 : Shape := ⟨2, ![512, 1024]⟩
abbrev S16896x1024 : Shape := ⟨2, ![16896, 1024]⟩
abbrev S1x1x9x1024 : Shape := ⟨4, ![1, 1, 9, 1024]⟩
abbrev S1x1x1x1024 : Shape := ⟨4, ![1, 1, 1, 1024]⟩
abbrev S1x1x1024x2816 : Shape := ⟨4, ![1, 1, 1024, 2816]⟩
abbrev S1x1x2816x1024 : Shape := ⟨4, ![1, 1, 2816, 1024]⟩
abbrev S1x1024 : Shape := ⟨2, ![1, 1024]⟩
abbrev S512 : Shape := ⟨1, ![512]⟩
abbrev S512x1 : Shape := ⟨2, ![512, 1]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩

abbrev nBuf : Space → Nat
  | .hbm => 14
  | .vmem => 12
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S2x8x9x1024, .f32⟩
  | .hbm, ⟨3, _⟩ => ⟨S2x3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S2x2x1024x2816, .bf16⟩
  | .hbm, ⟨8, _⟩ => ⟨S2x2x1024x2816, .bf16⟩
  | .hbm, ⟨9, _⟩ => ⟨S2x2x2816x1024, .bf16⟩
  | .hbm, ⟨10, _⟩ => ⟨S2x3x1x1024, .f32⟩
  | .hbm, ⟨11, _⟩ => ⟨S16384x1024, .f32⟩
  | .hbm, ⟨12, _⟩ => ⟨S512x1024, .f32⟩
  | .hbm, ⟨13, _⟩ => ⟨S16896x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1x9x1024, .f32⟩
  | .local _ .vmem, ⟨5, _⟩ => ⟨S1x1x9x1024, .f32⟩
  | .local _ .vmem, ⟨6, _⟩ => ⟨S1x1x1x1024, .f32⟩
  | .local _ .vmem, ⟨7, _⟩ => ⟨S1x1x1024x2816, .bf16⟩
  | .local _ .vmem, ⟨8, _⟩ => ⟨S1x1x1024x2816, .bf16⟩
  | .local _ .vmem, ⟨9, _⟩ => ⟨S1x1x2816x1024, .bf16⟩
  | .local _ .vmem, ⟨10, _⟩ => ⟨S512x1024, .f32⟩
  | .local _ .vmem, ⟨11, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 4 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c0_i32_4 : BitVec 32 := 0#32
  let c0_i32_5 : BitVec 32 := 0#32
  let c0_i32_6 : BitVec 32 := 0#32
  let c0_i32_7 : BitVec 32 := 0#32
  ![c0_i32_4.toNat, v18.toNat, c0_i32_5.toNat, c0_i32_6.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S2x8192x1024 : Shape := ⟨3, ![2, 8192, 1024]⟩
abbrev S2x256x1024 : Shape := ⟨3, ![2, 256, 1024]⟩
abbrev S2x8x9x1024 : Shape := ⟨4, ![2, 8, 9, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S1x1x1x1024 : Shape := ⟨4, ![1, 1, 1, 1024]⟩
abbrev S1024 : Shape := ⟨1, ![1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S1x1x1024 : Shape := ⟨3, ![1, 1, 1024]⟩
abbrev S_ : Shape := ⟨0, ![]⟩
abbrev S2x8192 : Shape := ⟨2, ![2, 8192]⟩
abbrev S2x8192x1 : Shape := ⟨3, ![2, 8192, 1]⟩
abbrev S2x8192x2816 : Shape := ⟨3, ![2, 8192, 2816]⟩
abbrev S2x256 : Shape := ⟨2, ![2, 256]⟩
abbrev S2x256x1 : Shape := ⟨3, ![2, 256, 1]⟩
abbrev S2x256x2816 : Shape := ⟨3, ![2, 256, 2816]⟩
abbrev S16384x1024 : Shape := ⟨2, ![16384, 1024]⟩
abbrev S512x1024 : Shape := ⟨2, ![512, 1024]⟩
abbrev S16896x1024 : Shape := ⟨2, ![16896, 1024]⟩

abbrev nBuf : Space → Nat
  | .hbm => 122
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x256x1024, .f32⟩
  | .hbm, ⟨2, _⟩ => ⟨S2x8x9x1024, .f32⟩
  | .hbm, ⟨3, _⟩ => ⟨S2x3x1024, .f32⟩
  | .hbm, ⟨4, _⟩ => ⟨S2x2x1024x2816, .f32⟩
  | .hbm, ⟨5, _⟩ => ⟨S2x2x1024x2816, .f32⟩
  | .hbm, ⟨6, _⟩ => ⟨S2x2x2816x1024, .f32⟩
  | .hbm, ⟨7, _⟩ => ⟨S1x2x1x1024, .f32⟩
  | .hbm, ⟨8, _⟩ => ⟨S2x1024, .f32⟩
  | .hbm, ⟨9, _⟩ => ⟨S2x1x1024, .f32⟩
  | .hbm, ⟨10, _⟩ => ⟨S1x2x1x1024, .f32⟩
  | .hbm, ⟨11, _⟩ => ⟨S2x1024, .f32⟩
  | .hbm, ⟨12, _⟩ => ⟨S2x1x1024, .f32⟩
  | .hbm, ⟨13, _⟩ => ⟨S1x2x1x1024, .f32⟩
  | .hbm, ⟨14, _⟩ => ⟨S2x1024, .f32⟩
  | .hbm, ⟨15, _⟩ => ⟨S2x1x1024, .f32⟩
  | .hbm, ⟨16, _⟩ => ⟨S1x1x1x1024, .f32⟩
  | .hbm, ⟨17, _⟩ => ⟨S1024, .f32⟩
  | .hbm, ⟨18, _⟩ => ⟨S1x1x1x1024, .f32⟩
  | .hbm, ⟨19, _⟩ => ⟨S1024, .f32⟩
  | .hbm, ⟨20, _⟩ => ⟨S1x1x1x1024, .f32⟩
  | .hbm, ⟨21, _⟩ => ⟨S1024, .f32⟩
  | .hbm, ⟨22, _⟩ => ⟨S1x1x1024x2816, .f32⟩
  | .hbm, ⟨23, _⟩ => ⟨S1024x2816, .f32⟩
  | .hbm, ⟨24, _⟩ => ⟨S1x1x1024x2816, .f32⟩
  | .hbm, ⟨25, _⟩ => ⟨S1024x2816, .f32⟩
  | .hbm, ⟨26, _⟩ => ⟨S1x1x2816x1024, .f32⟩
  | .hbm, ⟨27, _⟩ => ⟨S2816x1024, .f32⟩
  | .hbm, ⟨28, _⟩ => ⟨S1x1x1024, .f32⟩
  | .hbm, ⟨29, _⟩ => ⟨S1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x8192x1024, .f32⟩
  | .hbm, ⟨34, _⟩ => ⟨S_, .f32⟩
  | .hbm, ⟨35, _⟩ => ⟨S2x8192, .f32⟩
  | .hbm, ⟨36, _⟩ => ⟨S2x8192x1, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S2x8192x1, .f32⟩
  | .hbm, ⟨44, _⟩ => ⟨S2x8192x1024, .f32⟩
  | .hbm, ⟨45, _⟩ => ⟨S2x8192x1024, .f32⟩
  | .hbm, ⟨46, _⟩ => ⟨S1x1x1024, .f32⟩
  | .hbm, ⟨47, _⟩ => ⟨S2x8192x1024, .f32⟩
  | .hbm, ⟨48, _⟩ => ⟨S2x8192x1024, .f32⟩
  | .hbm, ⟨49, _⟩ => ⟨S_, .f32⟩
  | .hbm, ⟨50, _⟩ => ⟨S2x1x1024, .f32⟩
  | .hbm, ⟨51, _⟩ => ⟨S2x1x1024, .f32⟩
  | .hbm, ⟨52, _⟩ => ⟨S2x8192x1024, .f32⟩
  | .hbm, ⟨53, _⟩ => ⟨S2x8192x1024, .f32⟩
  | .hbm, ⟨54, _⟩ => ⟨S2x8192x1024, .f32⟩
  | .hbm, ⟨55, _⟩ => ⟨S2x8192x1024, .f32⟩
  | .hbm, ⟨56, _⟩ => ⟨S2x8192x2816, .f32⟩
  | .hbm, ⟨57, _⟩ => ⟨S2x8192x2816, .f32⟩
  | .hbm, ⟨58, _⟩ => ⟨S2x8192x2816, .f32⟩
  | .hbm, ⟨59, _⟩ => ⟨S_, .f32⟩
  | .hbm, ⟨60, _⟩ => ⟨S2x8192x2816, .f32⟩
  | .hbm, ⟨61, _⟩ => ⟨S2x8192x2816, .f32⟩
  | .hbm, ⟨62, _⟩ => ⟨S_, .f32⟩
  | .hbm, ⟨63, _⟩ => ⟨S2x8192x2816, .f32⟩
  | .hbm, ⟨64, _⟩ => ⟨S2x8192x2816, .f32⟩
  | .hbm, ⟨65, _⟩ => ⟨S2x8192x2816, .f32⟩
  | .hbm, ⟨66, _⟩ => ⟨S2x8192x2816, .f32⟩
  | .hbm, ⟨67, _⟩ => ⟨S2x8192x2816, .f32⟩
  | .hbm, ⟨68, _⟩ => ⟨S2x8192x1024, .f32⟩
  | .hbm, ⟨69, _⟩ => ⟨S2x8192x1024, .f32⟩
  | .hbm, ⟨70, _⟩ => ⟨S2x8192x1024, .f32⟩
  | .hbm, ⟨71, _⟩ => ⟨S2x8192x1024, .f32⟩
  | .hbm, ⟨72, _⟩ => ⟨S1x1x1024, .f32⟩
  | .hbm, ⟨73, _⟩ => ⟨S1024, .f32⟩
  | .hbm, ⟨74, _⟩ => ⟨S_, .f32⟩
  | .hbm, ⟨75, _⟩ => ⟨S1024, .f32⟩
  | .hbm, ⟨76, _⟩ => ⟨S1024, .f32⟩
  | .hbm, ⟨77, _⟩ => ⟨S2x256x1024, .f32⟩
  | .hbm, ⟨78, _⟩ => ⟨S_, .f32⟩
  | .hbm, ⟨79, _⟩ => ⟨S2x256, .f32⟩
  | .hbm, ⟨80, _⟩ => ⟨S2x256x1, .f32⟩
  | .hbm, ⟨81, _⟩ => ⟨S_, .f32⟩
  | .hbm, ⟨82, _⟩ => ⟨S2x256x1, .f32⟩
  | .hbm, ⟨83, _⟩ => ⟨S2x256x1, .f32⟩
  | .hbm, ⟨84, _⟩ => ⟨S_, .f32⟩
  | .hbm, ⟨85, _⟩ => ⟨S2x256x1, .f32⟩
  | .hbm, ⟨86, _⟩ => ⟨S2x256x1, .f32⟩
  | .hbm, ⟨87, _⟩ => ⟨S2x256x1, .f32⟩
  | .hbm, ⟨88, _⟩ => ⟨S2x256x1024, .f32⟩
  | .hbm, ⟨89, _⟩ => ⟨S2x256x1024, .f32⟩
  | .hbm, ⟨90, _⟩ => ⟨S1x1x1024, .f32⟩
  | .hbm, ⟨91, _⟩ => ⟨S2x256x1024, .f32⟩
  | .hbm, ⟨92, _⟩ => ⟨S2x256x1024, .f32⟩
  | .hbm, ⟨93, _⟩ => ⟨S_, .f32⟩
  | .hbm, ⟨94, _⟩ => ⟨S1024, .f32⟩
  | .hbm, ⟨95, _⟩ => ⟨S1024, .f32⟩
  | .hbm, ⟨96, _⟩ => ⟨S1x1x1024, .f32⟩
  | .hbm, ⟨97, _⟩ => ⟨S2x256x1024, .f32⟩
  | .hbm, ⟨98, _⟩ => ⟨S2x256x1024, .f32⟩
  | .hbm, ⟨99, _⟩ => ⟨S1x1x1024, .f32⟩
  | .hbm, ⟨100, _⟩ => ⟨S2x256x1024, .f32⟩
  | .hbm, ⟨101, _⟩ => ⟨S2x256x1024, .f32⟩
  | .hbm, ⟨102, _⟩ => ⟨S2x256x2816, .f32⟩
  | .hbm, ⟨103, _⟩ => ⟨S2x256x2816, .f32⟩
  | .hbm, ⟨104, _⟩ => ⟨S2x256x2816, .f32⟩
  | .hbm, ⟨105, _⟩ => ⟨S_, .f32⟩
  | .hbm, ⟨106, _⟩ => ⟨S2x256x2816, .f32⟩
  | .hbm, ⟨107, _⟩ => ⟨S2x256x2816, .f32⟩
  | .hbm, ⟨108, _⟩ => ⟨S_, .f32⟩
  | .hbm, ⟨109, _⟩ => ⟨S2x256x2816, .f32⟩
  | .hbm, ⟨110, _⟩ => ⟨S2x256x2816, .f32⟩
  | .hbm, ⟨111, _⟩ => ⟨S2x256x2816, .f32⟩
  | .hbm, ⟨112, _⟩ => ⟨S2x256x2816, .f32⟩
  | .hbm, ⟨113, _⟩ => ⟨S2x256x2816, .f32⟩
  | .hbm, ⟨114, _⟩ => ⟨S2x256x1024, .f32⟩
  | .hbm, ⟨115, _⟩ => ⟨S1x1x1024, .f32⟩
  | .hbm, ⟨116, _⟩ => ⟨S2x256x1024, .f32⟩
  | .hbm, ⟨117, _⟩ => ⟨S2x256x1024, .f32⟩
  | .hbm, ⟨118, _⟩ => ⟨S2x256x1024, .f32⟩
  | .hbm, ⟨119, _⟩ => ⟨S16384x1024, .f32⟩
  | .hbm, ⟨120, _⟩ => ⟨S512x1024, .f32⟩
  | .hbm, ⟨121, _⟩ => ⟨S16896x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_4 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_5 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_cst_7 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_8 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_call1_v0 : Ref sig .tc := ⟨.hbm, 103, rfl⟩
abbrev main_call1_v1 : Ref sig .tc := ⟨.hbm, 104, rfl⟩
abbrev main_call1_cst : Ref sig .tc := ⟨.hbm, 105, rfl⟩
abbrev main_call1_v2 : Ref sig .tc := ⟨.hbm, 106, rfl⟩
abbrev main_call1_v3 : Ref sig .tc := ⟨.hbm, 107, rfl⟩
abbrev main_call1_cst_0 : Ref sig .tc := ⟨.hbm, 108, rfl⟩
abbrev main_call1_v4 : Ref sig .tc := ⟨.hbm, 109, rfl⟩
abbrev main_call1_v5 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩

abbrev nD : Nat := 1
abbrev τ : Topo := Topo.v7x

variable {F : FTy → Type} [FloatOps F]
-- ==== Kernel3.lean ====
abbrev S16896x1024 : Shape := ⟨2, ![16896, 1024]⟩
abbrev S2x8x9x1024 : Shape := ⟨4, ![2, 8, 9, 1024]⟩
abbrev S16384x256 : Shape := ⟨2, ![16384, 256]⟩
abbrev S2x8448x256 : Shape := ⟨3, ![2, 8448, 256]⟩
abbrev S16896x256 : Shape := ⟨2, ![16896, 256]⟩
abbrev S2x64 : Shape := ⟨2, ![2, 64]⟩
abbrev S2x1024x1024 : Shape := ⟨3, ![2, 1024, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1024 : Shape := ⟨1, ![1024]⟩
abbrev S256x256 : Shape := ⟨2, ![256, 256]⟩
abbrev S2x3x1x1024 : Shape := ⟨4, ![2, 3, 1, 1024]⟩
abbrev S1x64 : Shape := ⟨2, ![1, 64]⟩
abbrev S64 : Shape := ⟨1, ![64]⟩
abbrev S4x64 : Shape := ⟨2, ![4, 64]⟩
abbrev S256 : Shape := ⟨1, ![256]⟩
abbrev S1x256 : Shape := ⟨2, ![1, 256]⟩
abbrev S1x1024 : Shape := ⟨2, ![1, 1024]⟩
abbrev S16384x1024 : Shape := ⟨2, ![16384, 1024]⟩
abbrev S512x1024 : Shape := ⟨2, ![512, 1024]⟩
abbrev S1x1x9x1024 : Shape := ⟨4, ![1, 1, 9, 1024]⟩
abbrev S512x256 : Shape := ⟨2, ![512, 256]⟩
abbrev S1x512x256 : Shape := ⟨3, ![1, 512, 256]⟩
abbrev S1x1024x1024 : Shape := ⟨3, ![1, 1024, 1024]⟩
abbrev S1x1x1x1024 : Shape := ⟨4, ![1, 1, 1, 1024]⟩
abbrev S1x1x1024x2816 : Shape := ⟨4, ![1, 1, 1024, 2816]⟩
abbrev S1x1x2816x1024 : Shape := ⟨4, ![1, 1, 2816, 1024]⟩
abbrev S1024x1024 : Shape := ⟨2, ![1024, 1024]⟩
abbrev S512 : Shape := ⟨1, ![512]⟩
abbrev S512x1 : Shape := ⟨2, ![512, 1]⟩
abbrev S1x1x1024x1536 : Shape := ⟨4, ![1, 1, 1024, 1536]⟩
abbrev S1024x1536 : Shape := ⟨2, ![1024, 1536]⟩
abbrev S512x1536 : Shape := ⟨2, ![512, 1536]⟩
abbrev S1x1x1536x1024 : Shape := ⟨4, ![1, 1, 1536, 1024]⟩
abbrev S1536x1024 : Shape := ⟨2, ![1536, 1024]⟩
abbrev S1x1x1024x1280 : Shape := ⟨4, ![1, 1, 1024, 1280]⟩
abbrev S1024x1280 : Shape := ⟨2, ![1024, 1280]⟩
abbrev S512x1280 : Shape := ⟨2, ![512, 1280]⟩
abbrev S1x1x1280x1024 : Shape := ⟨4, ![1, 1, 1280, 1024]⟩
abbrev S1280x1024 : Shape := ⟨2, ![1280, 1024]⟩
abbrev S2x8192x1024 : Shape := ⟨3, ![2, 8192, 1024]⟩

abbrev nBuf : Space → Nat
  | .hbm => 29
  | .vmem => 24
  | .smem => 0
  | _ => 0

abbrev bufTy : (tb : Table) → Fin (tcTables nBuf tb) → BufTy
  | .hbm, ⟨0, _⟩ => ⟨S16896x1024, .f32⟩
  | .hbm, ⟨1, _⟩ => ⟨S2x8x9x1024, .f32⟩
  | .hbm, ⟨2, _⟩ => ⟨S16384x256, .f32⟩
  | .hbm, ⟨3, _⟩ => ⟨S2x8448x256, .f32⟩
  | .hbm, ⟨4, _⟩ => ⟨S16384x256, .bf16⟩
  | .hbm, ⟨5, _⟩ => ⟨S16384x256, .f32⟩
  | .hbm, ⟨6, _⟩ => ⟨S16896x256, .f32⟩
  | .hbm, ⟨7, _⟩ => ⟨S2x64, .f32⟩
  | .hbm, ⟨8, _⟩ => ⟨S2x1024x1024, .f32⟩
  | .hbm, ⟨9, _⟩ => ⟨S2x3x1024, .f32⟩
  | .hbm, ⟨10, _⟩ => ⟨S2x2x1024x2816, .f32⟩
  | .hbm, ⟨11, _⟩ => ⟨S2x2x1024x2816, .f32⟩
  | .hbm, ⟨12, _⟩ => ⟨S2x2x2816x1024, .f32⟩
  | .hbm, ⟨13, _⟩ => ⟨S1024, .f32⟩
  | .hbm, ⟨14, _⟩ => ⟨S256x256, .bf16⟩
  | .hbm, ⟨15, _⟩ => ⟨S2x2x1024x2816, .bf16⟩
  | .hbm, ⟨16, _⟩ => ⟨S2x2x1024x2816, .bf16⟩
  | .hbm, ⟨17, _⟩ => ⟨S2x2x2816x1024, .bf16⟩
  | .hbm, ⟨18, _⟩ => ⟨S2x1024x1024, .bf16⟩
  | .hbm, ⟨19, _⟩ => ⟨S2x3x1x1024, .f32⟩
  | .hbm, ⟨20, _⟩ => ⟨S1x64, .f32⟩
  | .hbm, ⟨21, _⟩ => ⟨S64, .f32⟩
  | .hbm, ⟨22, _⟩ => ⟨S1x64, .f32⟩
  | .hbm, ⟨23, _⟩ => ⟨S4x64, .f32⟩
  | .hbm, ⟨24, _⟩ => ⟨S256, .f32⟩
  | .hbm, ⟨25, _⟩ => ⟨S1x256, .f32⟩
  | .hbm, ⟨26, _⟩ => ⟨S1x1024, .f32⟩
  | .hbm, ⟨27, _⟩ => ⟨S16384x1024, .f32⟩
  | .hbm, ⟨28, _⟩ => ⟨S2x8192x1024, .f32⟩
  | .local _ .vmem, ⟨0, _⟩ => ⟨S512x1024, .f32⟩
  | .local _ .vmem, ⟨1, _⟩ => ⟨S512x1024, .f32⟩
  | .local _ .vmem, ⟨2, _⟩ => ⟨S1x1x9x1024, .f32⟩
  | .local _ .vmem, ⟨3, _⟩ => ⟨S1x1x9x1024, .f32⟩
  | .local _ .vmem, ⟨4, _⟩ => ⟨S512x256, .f32⟩
  | .local _ .vmem, ⟨5, _⟩ => ⟨S512x256, .f32⟩
  | .local _ .vmem, ⟨6, _⟩ => ⟨S1x512x256, .f32⟩
  | .local _ .vmem, ⟨7, _⟩ => ⟨S1x512x256, .f32⟩
  | .local _ .vmem, ⟨8, _⟩ => ⟨S512x256, .bf16⟩
  | .local _ .vmem, ⟨9, _⟩ => ⟨S512x256, .bf16⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S1x256, .f32⟩
  | .local _ .vmem, ⟨15, _⟩ => ⟨S256x256, .bf16⟩
  | .local _ .vmem, ⟨16, _⟩ => ⟨S1x1024x1024, .bf16⟩
  | .local _ .vmem, ⟨17, _⟩ => ⟨S1x1x1x1024, .f32⟩
  | .local _ .vmem, ⟨18, _⟩ => ⟨S1x1x1024x2816, .bf16⟩
  | .local _ .vmem, ⟨19, _⟩ => ⟨S1x1x1024x2816, .bf16⟩
  | .local _ .vmem, ⟨20, _⟩ => ⟨S1x1x2816x1024, .bf16⟩
  | .local _ .vmem, ⟨21, _⟩ => ⟨S1x1024, .f32⟩
  | .local _ .vmem, ⟨22, _⟩ => ⟨S512x1024, .f32⟩
  | .local _ .vmem, ⟨23, _⟩ => ⟨S512x1024, .f32⟩
  | _, _ => ⟨S16896x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c32_i32 : BitVec 32 := 32#32
  let v0 : BitVec 1 := Scalar.cmpi .slt arg0 c32_i32
  let c16_i32 : BitVec 32 := 16#32
  let v1 : BitVec 32 := Scalar.divsi arg0 c16_i32
  let c0_i32 : BitVec 32 := 0#32
  let v2 : BitVec 1 := Scalar.cmpi .sgt arg0 c0_i32
  let v3 : BitVec 32 := Scalar.extui v2
  let c0_i32_0 : BitVec 32 := 0#32
  let v4 : BitVec 1 := Scalar.cmpi .slt arg0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi arg0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c2_i32 : BitVec 32 := 2#32
  let v18 : BitVec 32 := Scalar.select v0 v17 c2_i32
  let c1_i32_4 : BitVec 32 := 1#32
  let c0_i32_5 : BitVec 32 := 0#32
  let c0_i32_6 : BitVec 32 := 0#32
  let c0_i32_7 : BitVec 32 := 0#32
  ![c1_i32_4.toNat, v18.toNat, c0_i32_5.toNat, c0_i32_6.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c31_i32 : BitVec 32 := 31#32
  let v0 : BitVec 32 := Scalar.minsi arg0 c31_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c31_i32_4 : BitVec 32 := 31#32
  let v18 : BitVec 32 := Scalar.minsi arg0 c31_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_11 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_12 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_13 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1x1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1x1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S16896x1024 : Shape := ⟨2, ![16896, 1024]⟩
abbrev S2x8x9x1024 : Shape := ⟨4, ![2, 8, 9, 1024]⟩
abbrev S16384x256 : Shape := ⟨2, ![16384, 256]⟩
abbrev S2x8448x256 : Shape := ⟨3, ![2, 8448, 256]⟩
abbrev S16896x256 : Shape := ⟨2, ![16896, 256]⟩
abbrev S2x64 : Shape := ⟨2, ![2, 64]⟩
abbrev S2x1024x1024 : Shape := ⟨3, ![2, 1024, 1024]⟩
abbrev S2x3x1024 : Shape := ⟨3, ![2, 3, 1024]⟩
abbrev S2x2x1024x2816 : Shape := ⟨4, ![2, 2, 1024, 2816]⟩
abbrev S2x2x2816x1024 : Shape := ⟨4, ![2, 2, 2816, 1024]⟩
abbrev S1024 : Shape := ⟨1, ![1024]⟩
abbrev S1x2x1x1024 : Shape := ⟨4, ![1, 2, 1, 1024]⟩
abbrev S2x1024 : Shape := ⟨2, ![2, 1024]⟩
abbrev S2x1x1024 : Shape := ⟨3, ![2, 1, 1024]⟩
abbrev S2x8192x256 : Shape := ⟨3, ![2, 8192, 256]⟩
abbrev S2x8192x4x64 : Shape := ⟨4, ![2, 8192, 4, 64]⟩
abbrev S1x64 : Shape := ⟨2, ![1, 64]⟩
abbrev S64 : Shape := ⟨1, ![64]⟩
abbrev S_ : Shape := ⟨0, ![]⟩
abbrev S2x8192x4 : Shape := ⟨3, ![2, 8192, 4]⟩
abbrev S2x8192x4x1 : Shape := ⟨4, ![2, 8192, 4, 1]⟩
abbrev S1x1x1x64 : Shape := ⟨4, ![1, 1, 1, 64]⟩
abbrev S2x8192x1024 : Shape := ⟨3, ![2, 8192, 1024]⟩
abbrev S16384x1024 : Shape := ⟨2, ![16384, 1024]⟩
abbrev S1x1024x1024 : Shape := ⟨3, ![1, 1024, 1024]⟩
abbrev S1024x1024 : Shape := ⟨2, ![1024, 1024]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S2x8192 : Shape := ⟨2, ![2, 8192]⟩
abbrev S2x8192x1 : Shape := ⟨3, ![2, 8192, 1]⟩
abbrev S2x8192x2816 : Shape := ⟨3, ![2, 8192, 2816]⟩

abbrev nBuf : Space → Nat
  | .hbm => 153
  | .vmem => 0
  | .smem => 0
  | _ => 0

abbrev hbmTy0_0 (i : Nat) : BufTy := match i % 128 with
  | 0 => ⟨S16896x1024, .f32⟩
  | 1 => ⟨S2x8x9x1024, .f32⟩
  | 2 => ⟨S16384x256, .f32⟩
  | 3 => ⟨S2x8448x256, .f32⟩
  | 4 => ⟨S16384x256, .bf16⟩
  | 5 => ⟨S16384x256, .f32⟩
  | 6 => ⟨S16896x256, .f32⟩
  | 7 => ⟨S2x64, .f32⟩
  | 8 => ⟨S2x1024x1024, .f32⟩
  | 9 => ⟨S2x3x1024, .f32⟩
  | 10 => ⟨S2x2x1024x2816, .f32⟩
  | 11 => ⟨S2x2x1024x2816, .f32⟩
  | 12 => ⟨S2x2x2816x1024, .f32⟩
  | 13 => ⟨S1024, .f32⟩
  | 14 => ⟨S1x2x1x1024, .f32⟩
  | 15 => ⟨S2x1024, .f32⟩
  | 16 => ⟨S2x1x1024, .f32⟩
  | 17 => ⟨S1x2x1x1024, .f32⟩
  | 18 => ⟨S2x1024, .f32⟩
  | 19 => ⟨S2x1x1024, .f32⟩
  | 20 => ⟨S1x2x1x1024, .f32⟩
  | 21 => ⟨S2x1024, .f32⟩
  | 22 => ⟨S2x1x1024, .f32⟩
  | 23 => ⟨S1x2x1x1024, .f32⟩
  | 24 => ⟨S2x1024, .f32⟩
  | 25 => ⟨S2x1x1024, .f32⟩
  | 26 => ⟨S1x2x1x1024, .f32⟩
  | 27 => ⟨S2x1024, .f32⟩
  | 28 => ⟨S2x1x1024, .f32⟩
  | 29 => ⟨S1x2x1x1024, .f32⟩
  | 30 => ⟨S2x1024, .f32⟩
  | 31 => ⟨S2x1x1024, .f32⟩
  | 32 => ⟨S1x2x1x1024, .f32⟩
  | 33 => ⟨S2x1024, .f32⟩
  | 34 => ⟨S2x1x1024, .f32⟩
  | 35 => ⟨S1x2x1x1024, .f32⟩
  | 36 => ⟨S2x1024, .f32⟩
  | 37 => ⟨S2x1x1024, .f32⟩
  | 38 => ⟨S1x2x1x1024, .f32⟩
  | 39 => ⟨S2x1024, .f32⟩
  | 40 => ⟨S2x1x1024, .f32⟩
  | 41 => ⟨S2x8192x256, .f32⟩
  | 42 => ⟨S2x8192x4x64, .f32⟩
  | 43 => ⟨S1x64, .f32⟩
  | 44 => ⟨S64, .f32⟩
  | 45 => ⟨S2x8192x4x64, .f32⟩
  | 46 => ⟨S_, .f32⟩
  | 47 => ⟨S2x8192x4, .f32⟩
  | 48 => ⟨S2x8192x4x1, .f32⟩
  | 49 => ⟨S_, .f32⟩
  | 50 => ⟨S2x8192x4x1, .f32⟩
  | 51 => ⟨S2x8192x4x1, .f32⟩
  | 52 => ⟨S_, .f32⟩
  | 53 => ⟨S2x8192x4x1, .f32⟩
  | 54 => ⟨S2x8192x4x1, .f32⟩
  | 55 => ⟨S2x8192x4x1, .f32⟩
  | 56 => ⟨S2x8192x4x64, .f32⟩
  | 57 => ⟨S2x8192x4x64, .f32⟩
  | 58 => ⟨S1x1x1x64, .f32⟩
  | 59 => ⟨S2x8192x4x64, .f32⟩
  | 60 => ⟨S2x8192x4x64, .f32⟩
  | 61 => ⟨S2x8192x256, .f32⟩
  | 62 => ⟨S16384x256, .f32⟩
  | 63 => ⟨S2x8192x256, .f32⟩
  | 64 => ⟨S2x8192x256, .f32⟩
  | 65 => ⟨S2x8192x256, .f32⟩
  | 66 => ⟨S_, .f32⟩
  | 67 => ⟨S2x8192x256, .f32⟩
  | 68 => ⟨S2x8192x256, .f32⟩
  | 69 => ⟨S_, .f32⟩
  | 70 => ⟨S2x8192x256, .f32⟩
  | 71 => ⟨S2x8192x256, .f32⟩
  | 72 => ⟨S2x8192x256, .f32⟩
  | 73 => ⟨S2x8192x256, .f32⟩
  | 74 => ⟨S2x8192x256, .f32⟩
  | 75 => ⟨S2x8192x256, .bf16⟩
  | 76 => ⟨S2x8192x256, .f32⟩
  | 77 => ⟨S2x8192x256, .f32⟩
  | 78 => ⟨S2x8192x1024, .f32⟩
  | 79 => ⟨S16384x1024, .f32⟩
  | 80 => ⟨S2x8192x1024, .f32⟩
  | 81 => ⟨S1x1024x1024, .f32⟩
  | 82 => ⟨S1024x1024, .f32⟩
  | 83 => ⟨S2x8192x1024, .f32⟩
  | 84 => ⟨S2x8192x1024, .f32⟩
  | 85 => ⟨S2x8192x1024, .f32⟩
  | 86 => ⟨S2x8192x1024, .f32⟩
  | 87 => ⟨S1x1x1024, .f32⟩
  | 88 => ⟨S1024, .f32⟩
  | 89 => ⟨S1x1x1024x2816, .f32⟩
  | 90 => ⟨S1024x2816, .f32⟩
  | 91 => ⟨S1x1x1024x2816, .f32⟩
  | 92 => ⟨S1024x2816, .f32⟩
  | 93 => ⟨S1x1x2816x1024, .f32⟩
  | 94 => ⟨S2816x1024, .f32⟩
  | 95 => ⟨S_, .f32⟩
  | 96 => ⟨S2x1x1024, .f32⟩
  | 97 => ⟨S2x1x1024, .f32⟩
  | 98 => ⟨S2x8192x1024, .f32⟩
  | 99 => ⟨S_, .f32⟩
  | 100 => ⟨S2x8192, .f32⟩
  | 101 => ⟨S2x8192x1, .f32⟩
  | 102 => ⟨S_, .f32⟩
  | 103 => ⟨S2x8192x1, .f32⟩
  | 104 => ⟨S2x8192x1, .f32⟩
  | 105 => ⟨S_, .f32⟩
  | 106 => ⟨S2x8192x1, .f32⟩
  | 107 => ⟨S2x8192x1, .f32⟩
  | 108 => ⟨S2x8192x1, .f32⟩
  | 109 => ⟨S2x8192x1024, .f32⟩
  | 110 => ⟨S2x8192x1024, .f32⟩
  | 111 => ⟨S1x1x1024, .f32⟩
  | 112 => ⟨S2x8192x1024, .f32⟩
  | 113 => ⟨S2x8192x1024, .f32⟩
  | 114 => ⟨S_, .f32⟩
  | 115 => ⟨S2x1x1024, .f32⟩
  | 116 => ⟨S2x1x1024, .f32⟩
  | 117 => ⟨S2x8192x1024, .f32⟩
  | 118 => ⟨S2x8192x1024, .f32⟩
  | 119 => ⟨S2x8192x1024, .f32⟩
  | 120 => ⟨S2x8192x1024, .f32⟩
  | 121 => ⟨S2x8192x2816, .f32⟩
  | 122 => ⟨S2x8192x2816, .f32⟩
  | 123 => ⟨S2x8192x2816, .f32⟩
  | 124 => ⟨S_, .f32⟩
  | 125 => ⟨S2x8192x2816, .f32⟩
  | 126 => ⟨S2x8192x2816, .f32⟩
  | 127 => ⟨S_, .f32⟩
  | _ => ⟨S16896x1024, .f32⟩

abbrev hbmTy0_1 (i : Nat) : BufTy := match i % 128 with
  | 0 => ⟨S2x8192x2816, .f32⟩
  | 1 => ⟨S2x8192x2816, .f32⟩
  | 2 => ⟨S2x8192x2816, .f32⟩
  | 3 => ⟨S2x8192x2816, .f32⟩
  | 4 => ⟨S2x8192x2816, .f32⟩
  | 5 => ⟨S2x8192x1024, .f32⟩
  | 6 => ⟨S2x8192x1024, .f32⟩
  | 7 => ⟨S2x8192x1024, .f32⟩
  | 8 => ⟨S2x8192x1024, .f32⟩
  | 9 => ⟨S2x8192x1024, .f32⟩
  | 10 => ⟨S_, .f32⟩
  | 11 => ⟨S2x8192, .f32⟩
  | 12 => ⟨S2x8192x1, .f32⟩
  | 13 => ⟨S_, .f32⟩
  | 14 => ⟨S2x8192x1, .f32⟩
  | 15 => ⟨S2x8192x1, .f32⟩
  | 16 => ⟨S_, .f32⟩
  | 17 => ⟨S2x8192x1, .f32⟩
  | 18 => ⟨S2x8192x1, .f32⟩
  | 19 => ⟨S2x8192x1, .f32⟩
  | 20 => ⟨S2x8192x1024, .f32⟩
  | 21 => ⟨S2x8192x1024, .f32⟩
  | 22 => ⟨S1x1x1024, .f32⟩
  | 23 => ⟨S2x8192x1024, .f32⟩
  | 24 => ⟨S2x8192x1024, .f32⟩
  | _ => ⟨S16896x1024, .f32⟩

abbrev hbmTy (i : Nat) : BufTy := match i / 128 with
  | 0 => hbmTy0_0 i
  | 1 => hbmTy0_1 i
  | _ => ⟨S16896x1024, .f32⟩

abbrev bufTy : (tb : Table) → Fin (tcTables nBuf tb) → BufTy
  | .hbm, ⟨i, _⟩ => hbmTy i
  | _, _ => ⟨S16896x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst : Ref sig .tc := ⟨.hbm, 46, rfl⟩
abbrev main_v32 : Ref sig .tc := ⟨.hbm, 47, rfl⟩
abbrev main_v33 : Ref sig .tc := ⟨.hbm, 48, rfl⟩
abbrev main_cst_0 : Ref sig .tc := ⟨.hbm, 49, rfl⟩
abbrev main_v34 : Ref sig .tc := ⟨.hbm, 50, rfl⟩
abbrev main_v35 : Ref sig .tc := ⟨.hbm, 51, rfl⟩
abbrev main_cst_1 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_2 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_3 : Ref sig .tc := ⟨.hbm, 99, rfl⟩
abbrev main_v73 : Ref sig .tc := ⟨.hbm, 100, rfl⟩
abbrev main_v74 : Ref sig .tc := ⟨.hbm, 101, rfl⟩
abbrev main_cst_4 : Ref sig .tc := ⟨.hbm, 102, rfl⟩
abbrev main_v75 : Ref sig .tc := ⟨.hbm, 103, rfl⟩
abbrev main_v76 : Ref sig .tc := ⟨.hbm, 104, rfl⟩
abbrev main_cst_5 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_cst_6 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_call1_v0 : Ref sig .tc := ⟨.hbm, 122, rfl⟩
abbrev main_call1_v1 : Ref sig .tc := ⟨.hbm, 123, rfl⟩
abbrev main_call1_cst : Ref sig .tc := ⟨.hbm, 124, rfl⟩
abbrev main_call1_v2 : Ref sig .tc := ⟨.hbm, 125, rfl⟩
abbrev main_call1_v3 : Ref sig .tc := ⟨.hbm, 126, rfl⟩
abbrev main_call1_cst_0 : Ref sig .tc := ⟨.hbm, 127, rfl⟩
abbrev main_call1_v4 : Ref sig .tc := ⟨.hbm, 128, rfl⟩
abbrev main_call1_v5 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_cst_7 : Ref sig .tc := ⟨.hbm, 138, rfl⟩
abbrev main_v100 : Ref sig .tc := ⟨.hbm, 139, rfl⟩
abbrev main_v101 : Ref sig .tc := ⟨.hbm, 140, rfl⟩
abbrev main_cst_8 : Ref sig .tc := ⟨.hbm, 141, rfl⟩
abbrev main_v102 : Ref sig .tc := ⟨.hbm, 142, rfl⟩
abbrev main_v103 : Ref sig .tc := ⟨.hbm, 143, rfl⟩
abbrev main_cst_9 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩

abbrev nD : Nat := 1
abbrev τ : Topo := Topo.v7x

variable {F : FTy → Type} [FloatOps F]
-- ==== Proof.AttnSoftmax.lean ====
/-
  The algebra of one attention row on the extended reals: weights taken with base-two exponentials of the scores and
  divided by their sum once at the end are the softmax weights taken with natural exponentials of the scores scaled by
  the logarithm of two, shifted by any real number. The values weighted need not be finite.
-/
module

public import Idealize.ShloMosaic.Lib.Pointwise

@[expose] public section

noncomputable section

namespace Cert.AttnSoftmax

open Idealize.ShloMosaic

/-- A finite sum of extended reals times a non-negative real is the sum of the products. -/
theorem sum_mul_real {ι : Type*} (t : Finset ι) (f : ι → EReal) (c : ℝ) (hc : 0 ≤ c) :
    (∑ s ∈ t, f s) * (c : EReal) = ∑ s ∈ t, f s * (c : EReal) := by
  classical
  induction t using Finset.induction_on with
  | empty => simp
  | insert a t ha ih =>
    rw [Finset.sum_insert ha, Finset.sum_insert ha, ← ih]
    exact EReal.right_distrib_of_nonneg_of_ne_top (by exact_mod_cast hc) (EReal.coe_ne_top c) _ _

/-- A finite sum of reals read as extended reals. -/
theorem sum_coe {ι : Type*} (t : Finset ι) (f : ι → ℝ) : ∑ s ∈ t, ((f s : ℝ) : EReal) = ((∑ s ∈ t, f s : ℝ) : EReal) := by
  classical
  induction t using Finset.induction_on with
  | empty => simp
  | insert a t ha ih => rw [Finset.sum_insert ha, Finset.sum_insert ha, ih, EReal.coe_add]

/-- One attention row: the softmax-weighted values are the unnormalised weighted sum over the unnormalised sum. -/
theorem row {ι : Type*} [Fintype ι] [Nonempty ι] (x : ι → ℝ) (v : ι → EReal) (M : ℝ) :
    ∑ s, v s * Ideal.div (Ideal.exp ((x s : EReal) * ((Real.log 2 : ℝ) : EReal) - (M : EReal)))
        (∑ s', Ideal.exp ((x s' : EReal) * ((Real.log 2 : ℝ) : EReal) - (M : EReal)))
      = Ideal.div (∑ s, v s * Ideal.exp2 (x s : EReal)) (∑ s, Ideal.exp2 (x s : EReal)) := by
  have he : ∀ s, Ideal.exp ((x s : EReal) * ((Real.log 2 : ℝ) : EReal) - (M : EReal))
      = (((2 : ℝ) ^ (x s) * Real.exp (-M) : ℝ) : EReal) := fun s => by
    rw [← EReal.coe_mul, ← EReal.coe_sub, Ideal.exp_coe, Real.rpow_def_of_pos (by norm_num), ← Real.exp_add]
    congr 2; ring
  have h2 : ∀ s, Ideal.exp2 (x s : EReal) = (((2 : ℝ) ^ (x s) : ℝ) : EReal) := fun s => rfl
  have hp : ∀ s, 0 < (2 : ℝ) ^ (x s) := fun s => Real.rpow_pos_of_pos (by norm_num) _
  simp only [he, h2, sum_coe, ← Finset.sum_mul]
  have hD : 0 < ∑ s, (2 : ℝ) ^ (x s) := Finset.sum_pos (fun s _ => hp s) Finset.univ_nonempty
  have hE := Real.exp_pos (-M)
  rw [Ideal.div_coe hD.ne', sum_mul_real _ _ _ (by positivity)]
  refine Finset.sum_congr rfl fun s _ => ?_
  rw [Ideal.div_coe (mul_pos hD hE).ne', mul_assoc, ← EReal.coe_mul, ← EReal.coe_mul]
  congr 2
  field_simp

/-- The largest of finitely many finite scores, folded from minus infinity, is a real number. -/
theorem fold_max_real {ι : Type*} [Fintype ι] [Nonempty ι] (x : ι → ℝ) :
    ∃ M : ℝ, Finset.univ.fold max (⊥ : EReal) (fun s => (x s : EReal)) = (M : EReal) := by
  obtain ⟨s₀⟩ := ‹Nonempty ι›
  have hle : ∀ t : Finset ι, t.fold max (⊥ : EReal) (fun s => (x s : EReal)) ≠ ⊤ := by
    classical
    intro t
    induction t using Finset.induction_on with
    | empty => simp
    | insert a t ha ih =>
      rw [Finset.fold_insert ha]
      exact (max_lt (EReal.coe_lt_top _) (lt_top_iff_ne_top.mpr ih)).ne
  have hbot : Finset.univ.fold max (⊥ : EReal) (fun s => (x s : EReal)) ≠ ⊥ := by
    have : (x s₀ : EReal) ≤ Finset.univ.fold max (⊥ : EReal) (fun s => (x s : EReal)) :=
      (Finset.le_fold_max _).mpr (.inr ⟨s₀, Finset.mem_univ _, le_rfl⟩)
    intro h
    rw [h] at this
    exact EReal.coe_ne_bot _ (le_bot_iff.mp this)
  exact ⟨_, (EReal.coe_toReal (hle _) hbot).symm⟩

end Cert.AttnSoftmax

end
-- ==== Proof.AttnSpec.lean ====
/-
  The attention over latent and context positions as a formula of its three arrays: the keys of a batch in one list of
  8448 rows, latents first, the score of a query head against a key row, and the value row that goes with it.
-/
module

public import proofs.«01_k».proof.Proof.AttnSoftmax
public import Idealize.ShloMosaic.Lib.Pointwise

@[expose] public section

noncomputable section

namespace Cert.AttnSpec

open Idealize.ShloMosaic

/-- The shapes of the tiles of queries, of the rows of keys and of the tiles of values. -/
abbrev SQ : Shape := ⟨3, ![33, 256, 512]⟩
abbrev SK : Shape := ⟨2, ![16896, 128]⟩
abbrev SV : Shape := ⟨4, ![33, 2, 80, 512]⟩

/-- The row that holds key position `s` of batch `b`. -/
def pos (b : Fin 2) (s : Fin 8448) : Fin 16896 :=
  if s.val < 8192 then ⟨8192 * b + s, by omega⟩ else ⟨16384 + 256 * b + (s - 8192), by omega⟩

/-- The score of query `i` of batch `b` and head `n` against key position `s`. -/
def score (q : FVec Ideal SQ .bf16) (k : FVec Ideal SK .bf16) (b : Fin 2) (i : Fin 8192) (n : Fin 4) (s : Fin 8448) : EReal :=
  ∑ e : Fin 64, (k (ix2 (pos b s) ⟨64 * (n / 2) + e, by omega⟩) : EReal)
    * (q (ix3 ⟨(8192 * b + i) / 512, by omega⟩ ⟨64 * n + e, by omega⟩ ⟨(8192 * b + i) % 512, by omega⟩) : EReal)

/-- Channel `d` of the value at key position `s` of batch `b` and key-value head `h`. -/
def value (v : FVec Ideal SV .bf16) (b : Fin 2) (h : Fin 2) (d : Fin 80) (s : Fin 8448) : EReal :=
  v (ix4 ⟨(pos b s) / 512, by omega⟩ h d ⟨(pos b s) % 512, by omega⟩)

/-- The weighted sum of a row of the values, the weights the exponentiated scores. -/
def weighted (q : FVec Ideal SQ .bf16) (k : FVec Ideal SK .bf16) (v : FVec Ideal SV .bf16) (b : Fin 2) (i : Fin 8192) (n : Fin 4) (d : Fin 80) : EReal :=
  ∑ s : Fin 8448, value v b ⟨n / 2, by omega⟩ d s * Ideal.exp2 (score q k b i n s)

end Cert.AttnSpec

end
-- ==== Proof.AttnReference.lean ====
/-
  The reference's attention read at a query, a head and a channel.
-/
module

public import proofs.«01_k».proof.Proof.Gen.ReferenceIdeal.Read
public import proofs.«01_k».proof.Proof.AttnSpec

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Cert.ReferenceIdeal.Read

theorem keys_apply (k : FVec Ideal S16896x128 .bf16) (b : Fin 2) (s : Fin 8448) (h : Fin 2) (e : Fin 64) :
    val_main_v19 (F := Ideal) k (ix4 b s h e) = k (ix2 (AttnSpec.pos b s) ⟨64 * h + e, by omega⟩) := by
  pointwise [val_main_v19, val_main_v12, val_main_v14, val_main_v11, val_main_v13, val_main_v5, val_main_v1]
  unfold AttnSpec.pos
  split_ifs
  · exact congrArg k (congrArg₂ ix2 (Fin.ext (by dsimp only; omega)) (Fin.ext (by dsimp only; omega)))
  · exact congrArg k (congrArg₂ ix2 (Fin.ext (by dsimp only; omega)) (Fin.ext (by dsimp only; omega)))
  · omega

theorem rows_apply (v : FVec Ideal S33x2x80x512 .bf16) (r : Fin 16896) (h : Fin 2) (d : Fin 64) :
    val_main_v8 (F := Ideal) v (ix3 r h d) = v (ix4 ⟨r / 512, by omega⟩ h ⟨d, by omega⟩ ⟨r % 512, by omega⟩) := by
  pointwise [val_main_v8, val_main_v7, val_main_v6, val_main_v2]

theorem vals_apply (v : FVec Ideal S33x2x80x512 .bf16) (b : Fin 2) (s : Fin 8448) (h : Fin 2) (d : Fin 64) :
    val_main_v20 (F := Ideal) v (ix4 b s h d) = AttnSpec.value v b h ⟨d, by omega⟩ s := by
  rw [AttnSpec.value, ← rows_apply v (AttnSpec.pos b s) h d]
  pointwise [val_main_v20, val_main_v16, val_main_v18, val_main_v15, val_main_v17]
  unfold AttnSpec.pos
  split_ifs
  · exact congrArg (val_main_v8 (F := Ideal) v) (congrArg (fun r => ix3 r h d) (Fin.ext (by dsimp only; omega)))
  · exact congrArg (val_main_v8 (F := Ideal) v) (congrArg (fun r => ix3 r h d) (Fin.ext (by dsimp only; omega)))
  · omega

theorem queries_apply (q : FVec Ideal S33x256x512 .bf16) (b : Fin 2) (i : Fin 8192) (h g : Fin 2) (e : Fin 64) :
    val_main_v10 (F := Ideal) q (ix5 b i h g e) = q (ix3 ⟨(8192 * b + i) / 512, by omega⟩ ⟨64 * (2 * h + g) + e, by omega⟩ ⟨(8192 * b + i) % 512, by omega⟩) := by
  pointwise [val_main_v10, val_main_v9, val_main_v4, val_main_v3, val_main_v0]
  congr 2 <;> (apply Fin.ext; dsimp only; omega)

theorem log_two : Ideal.log (Ideal.ofBits .f32 0x40000000#32) = ((Real.log 2 : ℝ) : EReal) := by
  have h : Ideal.ofBits .f32 0x40000000#32 = ((2 : ℝ) : EReal) := by simp [Ideal.ofBits, Ideal.ieee, -EReal.coe_mul]; norm_num
  rw [h, Ideal.log_coe, if_neg (by norm_num)]

theorem neg_inf : Ideal.ofBits .f32 0xFF800000#32 = ⊥ := by simp [Ideal.ofBits, Ideal.ieee]

theorem scores_apply (q : FVec Ideal S33x256x512 .bf16) (k : FVec Ideal S16896x128 .bf16) (b h g : Fin 2) (i : Fin 8192) (s : Fin 8448) :
    val_main_v25 (F := Ideal) q k (ix5 b h g i s) = AttnSpec.score q k b i ⟨2 * h + g, by omega⟩ s * ((Real.log 2 : ℝ) : EReal) := by
  pointwise [val_main_v25, val_main_v24, val_main_v23, val_main_v22, val_main_v21, val_main_cst, AttnSpec.score]
  simp only [keys_apply, queries_apply]
  rw [← log_two]
  refine congrArg (· * _) (Finset.sum_congr rfl fun e _ => congrArg (· * _) (congrArg (fun a => k (ix2 _ a)) (Fin.ext ?_)))
  dsimp only
  omega

/-- A maximum along the last axis. -/
theorem max_apply (y : FVec Ideal S2x2x2x8192x8448 .f32) (z : FVec Ideal S_ .f32) (b h g : Fin 2) (i : Fin 8192) :
    Host.reduce (FloatOps.maximumf (F := Ideal) (φ := .f32)) y z reducesTo_S2x2x2x8192x8448_S2x2x2x8192_d4 h_S_ (ix4 b h g i)
      = Finset.univ.fold max (z (Shape.Idx.first h_S_)) fun s : Fin 8448 => y (ix5 b h g i s) := by
  simp only [pointwise]

/-- The largest score of a row is a real number. -/
theorem largest (q : FVec Ideal S33x256x512 .bf16) (k : FVec Ideal S16896x128 .bf16)
    (b h g : Fin 2) (i : Fin 8192) (x : Fin 8448 → ℝ) (hx : ∀ s, AttnSpec.score q k b i ⟨2 * h + g, by omega⟩ s = x s) :
    ∃ M : ℝ, val_main_v28 (F := Ideal) q k (ix4 b h g i) = (M : EReal) := by
  obtain ⟨M, hM⟩ := AttnSoftmax.fold_max_real (fun s => x s * Real.log 2)
  refine ⟨M, ?_⟩
  have hr : val_main_v26 (F := Ideal) q k (ix4 b h g i) = (M : EReal) := by
    rw [← hM]
    unfold val_main_v26
    refine (max_apply _ _ b h g i).trans ?_
    rw [show (val_main_cst_0 (F := Ideal)) (Shape.Idx.first h_S_) = (⊥ : EReal) from neg_inf]
    refine congrArg (fun f => Finset.fold max (⊥ : EReal) f Finset.univ) (funext fun s => ?_)
    refine (scores_apply q k b h g i s).trans ?_
    rw [hx, EReal.coe_mul]
  rw [val_main_v28_apply, hr, val_main_v27_apply, val_main_cst_1_apply]
  show max (Ideal.ofBits .f32 0xFF800000#32) (M : EReal) = M
  rw [neg_inf]
  exact max_eq_right bot_le

/-- An exponential of the shifted scores. -/
theorem exps_apply (q : FVec Ideal S33x256x512 .bf16) (k : FVec Ideal S16896x128 .bf16) (b h g : Fin 2) (i : Fin 8192) (s : Fin 8448) (M : EReal)
    (hM : val_main_v28 (F := Ideal) q k (ix4 b h g i) = M) :
    val_main_v32 (F := Ideal) q k (ix5 b h g i s)
      = Ideal.exp (AttnSpec.score q k b i ⟨2 * h + g, by omega⟩ s * ((Real.log 2 : ℝ) : EReal) - M) := by
  rw [← scores_apply, ← hM]
  pointwise [val_main_v32, val_main_v31, val_main_v30, val_main_v29]

/-- A softmax weight. -/
theorem weights_apply (q : FVec Ideal S33x256x512 .bf16) (k : FVec Ideal S16896x128 .bf16) (b h g : Fin 2) (i : Fin 8192) (s : Fin 8448) :
    val_main_v36 (F := Ideal) q k (ix5 b h g i s)
      = Ideal.div (val_main_v32 (F := Ideal) q k (ix5 b h g i s)) (∑ s', val_main_v32 (F := Ideal) q k (ix5 b h g i s')) := by
  pointwise [val_main_v36, val_main_v35, val_main_v34, val_main_v33, val_main_cst_2]

/-- The reference's result, the scores being real. -/
theorem result_apply (q : FVec Ideal S33x256x512 .bf16) (k : FVec Ideal S16896x128 .bf16) (v : FVec Ideal S33x2x80x512 .bf16)
    (b h g : Fin 2) (i : Fin 8192) (d : Fin 64) (x : Fin 8448 → ℝ) (hx : ∀ s, AttnSpec.score q k b i ⟨2 * h + g, by omega⟩ s = x s) :
    val_main_v40 (F := Ideal) q k v (ix2 ⟨8192 * b + i, by omega⟩ ⟨128 * h + 64 * g + d, by omega⟩)
      = Ideal.div (AttnSpec.weighted q k v b i ⟨2 * h + g, by omega⟩ ⟨d, by omega⟩) (∑ s, Ideal.exp2 (AttnSpec.score q k b i ⟨2 * h + g, by omega⟩ s)) := by
  obtain ⟨M, hM⟩ := largest q k b h g i x hx
  pointwise [val_main_v40, val_main_v39, val_main_v38, val_main_v37]
  simp only [weights_apply, exps_apply q k b h g i _ M hM, vals_apply, hx, AttnSpec.weighted]
  refine (AttnSoftmax.row x _ M).trans ?_
  refine congrArg (Ideal.div · _) (Finset.sum_congr rfl fun s _ => congrArg (fun t => AttnSpec.value v b t _ s * _) (Fin.ext ?_))
  dsimp only
  omega

end Cert.ReferenceIdeal.Attn

end
-- ==== Proof.AttnBlock.lean ====
/-
  What one grid point of the attention kernel stores: the sums over the sixteen key blocks and the context block, as a
  recursion over the key blocks, with the scratch that holds the scores between the two matrix products read back.
-/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Attn

open Idealize.ShloMosaic Idealize.ShloMosaic.TcCoe Idealize.SL.Sem
open Cert.KernelIdeal Cert.KernelIdeal.Gen

/-- The rows of key block `j`, out of a batch's keys. -/
def keyBlk (k : FVec Ideal S8192x128 .bf16) (j : ℕ) (h : j < 16) : FVec Ideal S512x128 .bf16 :=
  View.ld (Val := Elt Ideal) (e' := .bf16) k (Rect.unit (s := S8192x128) ![512 * j, 0] S512x128.size (by intro a; fin_cases a <;> simp <;> omega))

/-- The tile of value block `j` and key-value head `h`, out of a batch's values. -/
def valBlk (v : FVec Ideal S16x2x80x512 .bf16) (j : ℕ) (hj : j < 16) (h : ℕ) (hh : h < 2) : FVec Ideal S1x1x80x512 .bf16 :=
  View.ld (Val := Elt Ideal) (e' := .bf16) v (Rect.unit (s := S16x2x80x512) ![j, h, 0, 0] S1x1x80x512.size (by intro a; fin_cases a <;> simp <;> omega))

/-- The exponentiated scores of one key block against one group of queries. -/
abbrev scores (g : FVec Ideal S128x1024 .bf16) (k : FVec Ideal S512x128 .bf16) : FVec Ideal S1x512x1024 .bf16 := k0_pay12 g k

/-- The denominators after the first `n` key blocks. -/
def den (g : FVec Ideal S128x1024 .bf16) (k : FVec Ideal S8192x128 .bf16) (v : FVec Ideal S16x2x80x512 .bf16) (h : ℕ) (hh : h < 2) :
    (n : ℕ) → n ≤ 16 → FVec Ideal S1x1024 .f32
  | 0, _ => k0_pay6
  | n + 1, hn => k0_pay15 (den g k v h hh n (by omega)) (scores g (keyBlk k n hn)) (valBlk v n hn h hh)

/-- The numerators after the first `n` key blocks. -/
def num (g : FVec Ideal S128x1024 .bf16) (k : FVec Ideal S8192x128 .bf16) (v : FVec Ideal S16x2x80x512 .bf16) (h : ℕ) (hh : h < 2) :
    (n : ℕ) → n ≤ 16 → FVec Ideal S64x1024 .f32
  | 0, _ => k0_pay7
  | n + 1, hn => k0_pay16 (num g k v h hh n (by omega)) (scores g (keyBlk k n hn)) (valBlk v n hn h hh)

variable (m : (ℓ : Loc nD τ sig) → Buf (Elt Ideal) ℓ)

/-- The tile of the context values of key-value head `h`. -/
def ctxVal (v : FVec Ideal S1x2x80x256 .bf16) (h : ℕ) (hh : h < 2) : FVec Ideal S1x1x80x256 .bf16 :=
  View.ld (Val := Elt Ideal) (e' := .bf16) v (Rect.unit (s := S1x2x80x256) ![0, h, 0, 0] S1x1x80x256.size (by intro a; fin_cases a <;> simp <;> omega))

/-- The denominators with the context block added. -/
abbrev denAll (g : FVec Ideal S128x1024 .bf16) (k : FVec Ideal S8192x128 .bf16) (v : FVec Ideal S16x2x80x512 .bf16)
    (kc : FVec Ideal S256x128 .bf16) (vc : FVec Ideal S1x2x80x256 .bf16) (h : ℕ) (hh : h < 2) : FVec Ideal S1x1024 .f32 :=
  addf (den g k v h hh 16 le_rfl) (extractStridedSlice S1x1024 ![64, 0] (k0_pay154 (k0_pay146 g kc) (ctxVal vc h hh)) slices_S80x1024_o64_0_S1x1024)

/-- The numerators with the context block added. -/
abbrev numAll (g : FVec Ideal S128x1024 .bf16) (k : FVec Ideal S8192x128 .bf16) (v : FVec Ideal S16x2x80x512 .bf16)
    (kc : FVec Ideal S256x128 .bf16) (vc : FVec Ideal S1x2x80x256 .bf16) (h : ℕ) (hh : h < 2) : FVec Ideal S64x1024 .f32 :=
  addf (num g k v h hh 16 le_rfl) (extractStridedSlice S64x1024 ![0, 0] (k0_pay154 (k0_pay146 g kc) (ctxVal vc h hh)) slices_S80x1024_o0_0_S64x1024)

/-- What a grid point stores, of its tile of queries, its batch's keys and values and its batch's context keys and values. -/
def stored (q : FVec Ideal S1x256x512 .bf16) (k : FVec Ideal S8192x128 .bf16) (v : FVec Ideal S16x2x80x512 .bf16)
    (kc : FVec Ideal S256x128 .bf16) (vc : FVec Ideal S1x2x80x256 .bf16) : FVec Ideal S512x256 .bf16 :=
  k0_pay1 (denAll (k0_pay5 q) k v kc vc 1 (by omega)) (numAll (k0_pay5 q) k v kc vc 1 (by omega))
    (divf (numAll (k0_pay4 q) k v kc vc 0 (by omega)) (broadcastTo S64x1024 (denAll (k0_pay4 q) k v kc vc 0 (by omega)) broadcasts_S1x1024_S64x1024))

set_option maxHeartbeats 4000000 in
/-- What the run leaves in the output block is `stored` of the input blocks. -/
theorem after_eq (c : Dev nD) (t : Fin cfg0.N) :
    (dats m 0 c).after 5 t = stored (iblk m c 0 t) (X0_1 m c t) (X0_2 m c t) (iblk m c 3 t) (iblk m c 4 t) := by
  rw [after0_5]
  unfold outsAt0
  frame_open
  simp (disch := decide) only [↓ View.readCov_skip, ↓ View.readCov_cons_toLoadRect, ↓ View.readCov_fill]
  frame_out
  rfl

end Cert.KernelIdeal.Attn

end
-- ==== Proof.AttnValue.lean ====
/-
  The stored block of one grid point of the attention kernel, read at an index.
-/
module

public import proofs.«01_k».proof.Proof.AttnBlock
public import Idealize.ShloMosaic.Lib.Pointwise

@[expose] public section

set_option maxRecDepth 16384

noncomputable section

namespace Cert.KernelIdeal.Attn

open Idealize.ShloMosaic Idealize.ShloMosaic.TcCoe Idealize.SL.Sem
open Cert.KernelIdeal Cert.KernelIdeal.Gen

theorem scores_apply (g : FVec Ideal S128x1024 .bf16) (k : FVec Ideal S512x128 .bf16) (r : Fin 512) (c : Fin 1024) :
    scores g k (ix3 0 r c) = Ideal.exp2 (∑ e : Fin 128, k (ix2 r e) * g (ix2 e c)) := by
  pointwise [scores, k0_pay12]
  rfl

theorem ctxScores_apply (g : FVec Ideal S128x1024 .bf16) (k : FVec Ideal S256x128 .bf16) (r : Fin 256) (c : Fin 1024) :
    k0_pay146 g k (ix3 0 r c) = Ideal.exp2 (∑ e : Fin 128, k (ix2 r e) * g (ix2 e c)) := by
  pointwise [k0_pay146]
  rfl

theorem denStep_apply (a : FVec Ideal S1x1024 .f32) (s : FVec Ideal S1x512x1024 .bf16) (v : FVec Ideal S1x1x80x512 .bf16) (c : Fin 1024) :
    k0_pay15 a s v (ix2 0 c) = a (ix2 0 c) + ∑ r : Fin 512, v (ix4 0 0 64 r) * s (ix3 0 r c) := by
  pointwise [k0_pay15, k0_pay14]

theorem numStep_apply (a : FVec Ideal S64x1024 .f32) (s : FVec Ideal S1x512x1024 .bf16) (v : FVec Ideal S1x1x80x512 .bf16) (d : Fin 64) (c : Fin 1024) :
    k0_pay16 a s v (ix2 d c) = a (ix2 d c) + ∑ r : Fin 512, v (ix4 0 0 ⟨d, by omega⟩ r) * s (ix3 0 r c) := by
  pointwise [k0_pay16, k0_pay14]

theorem ctxPv_apply (s : FVec Ideal S1x256x1024 .bf16) (v : FVec Ideal S1x1x80x256 .bf16) (d : Fin 80) (c : Fin 1024) :
    k0_pay154 (F := Ideal) s v (ix2 d c) = ∑ r : Fin 256, v (ix4 0 0 d r) * s (ix3 0 r c) := by
  pointwise [k0_pay154]

theorem keyBlk_apply (k : FVec Ideal S8192x128 .bf16) (j : ℕ) (h : j < 16) (r : Fin 512) (e : Fin 128) :
    keyBlk k j h (ix2 r e) = k (ix2 ⟨512 * j + r, by omega⟩ e) := by
  pointwise [keyBlk]

theorem valBlk_apply (v : FVec Ideal S16x2x80x512 .bf16) (j : ℕ) (hj : j < 16) (h : ℕ) (hh : h < 2) (d : Fin 80) (r : Fin 512) :
    valBlk v j hj h hh (ix4 0 0 d r) = v (ix4 ⟨j, hj⟩ ⟨h, hh⟩ d r) := by
  pointwise [valBlk]

theorem ctxVal_apply (v : FVec Ideal S1x2x80x256 .bf16) (h : ℕ) (hh : h < 2) (d : Fin 80) (r : Fin 256) :
    ctxVal v h hh (ix4 0 0 d r) = v (ix4 0 ⟨h, hh⟩ d r) := by
  pointwise [ctxVal]

theorem den_apply (g : FVec Ideal S128x1024 .bf16) (k : FVec Ideal S8192x128 .bf16) (v : FVec Ideal S16x2x80x512 .bf16) (h : ℕ) (hh : h < 2)
    (n : ℕ) (hn : n ≤ 16) (c : Fin 1024) :
    den g k v h hh n hn (ix2 0 c) = ∑ j : Fin n, ∑ r : Fin 512, v (ix4 ⟨j, by omega⟩ ⟨h, hh⟩ 64 r)
      * Ideal.exp2 (∑ e : Fin 128, k (ix2 ⟨512 * j + r, by omega⟩ e) * g (ix2 e c)) := by
  induction n with
  | zero => rw [den]; pointwise [k0_pay6]; simp
  | succ n ih =>
    rw [den, denStep_apply, ih, Fin.sum_univ_castSucc (n := n)]
    simp only [scores_apply, keyBlk_apply, valBlk_apply, Fin.val_castSucc, Fin.val_last]

theorem num_apply (g : FVec Ideal S128x1024 .bf16) (k : FVec Ideal S8192x128 .bf16) (v : FVec Ideal S16x2x80x512 .bf16) (h : ℕ) (hh : h < 2)
    (n : ℕ) (hn : n ≤ 16) (d : Fin 64) (c : Fin 1024) :
    num g k v h hh n hn (ix2 d c) = ∑ j : Fin n, ∑ r : Fin 512, v (ix4 ⟨j, by omega⟩ ⟨h, hh⟩ ⟨d, by omega⟩ r)
      * Ideal.exp2 (∑ e : Fin 128, k (ix2 ⟨512 * j + r, by omega⟩ e) * g (ix2 e c)) := by
  induction n with
  | zero => rw [num]; pointwise [k0_pay7]; simp
  | succ n ih =>
    rw [num, numStep_apply, ih, Fin.sum_univ_castSucc (n := n)]
    simp only [scores_apply, keyBlk_apply, valBlk_apply, Fin.val_castSucc, Fin.val_last]

/-- The score of a key row against query head `n` at a query: the product over the head's sixty-four channels, a key-value head
    serving two query heads. -/
def score (q : FVec Ideal S1x256x512 .bf16) (f : Fin 128 → EReal) (n : Fin 4) (i : Fin 512) : EReal :=
  ∑ e : Fin 64, f ⟨64 * (n / 2) + e, by omega⟩ * (q (ix3 0 ⟨64 * n + e, by omega⟩ i) : EReal)

theorem group0_apply (q : FVec Ideal S1x256x512 .bf16) (f : Fin 128 → EReal) (n : Fin 4) (hn : (n : ℕ) / 2 = 0) (i : Fin 512) (c : Fin 1024)
    (hc : (c : ℕ) = 512 * (n % 2) + i) :
    ∑ e : Fin 128, f e * (k0_pay4 (F := Ideal) q (ix2 e c) : EReal) = score q f n i := by
  pointwise [k0_pay4, k0_pay2, k0_pay3, score]
  simp only [dite_eq_ite, ite_self, mul_zero, Finset.sum_const_zero, add_zero]
  refine Finset.sum_congr rfl fun e _ => ?_
  by_cases h : (c : ℕ) < 512
  · rw [dif_pos h]; congr 3 <;> first | omega | (apply Fin.ext; dsimp only; omega)
  · rw [dif_neg h]; congr 3 <;> first | omega | (apply Fin.ext; dsimp only; omega)

theorem group1_apply (q : FVec Ideal S1x256x512 .bf16) (f : Fin 128 → EReal) (n : Fin 4) (hn : (n : ℕ) / 2 = 1) (i : Fin 512) (c : Fin 1024)
    (hc : (c : ℕ) = 512 * (n % 2) + i) :
    ∑ e : Fin 128, f e * (k0_pay5 (F := Ideal) q (ix2 e c) : EReal) = score q f n i := by
  pointwise [k0_pay5, k0_pay2, k0_pay3, score]
  simp only [dite_eq_ite, ite_self, mul_zero, Finset.sum_const_zero, zero_add]
  refine Finset.sum_congr rfl fun e _ => ?_
  by_cases h : (c : ℕ) < 512
  · rw [dif_pos h]; congr 3 <;> first | omega | (apply Fin.ext; dsimp only; omega)
  · rw [dif_neg h]; congr 3 <;> first | omega | (apply Fin.ext; dsimp only; omega)

/-- The weighted sum of row `d` of the values over the batch's keys, latents first. -/
def weighted (q : FVec Ideal S1x256x512 .bf16) (k : FVec Ideal S8192x128 .bf16) (v : FVec Ideal S16x2x80x512 .bf16)
    (kc : FVec Ideal S256x128 .bf16) (vc : FVec Ideal S1x2x80x256 .bf16) (n : Fin 4) (i : Fin 512) (d : Fin 80) : EReal :=
  (∑ j : Fin 16, ∑ r : Fin 512, (v (ix4 j ⟨n / 2, by omega⟩ d r) : EReal) * Ideal.exp2 (score q (fun e => k (ix2 ⟨512 * j + r, by omega⟩ e)) n i))
    + ∑ r : Fin 256, (vc (ix4 0 ⟨n / 2, by omega⟩ d r) : EReal) * Ideal.exp2 (score q (fun e => kc (ix2 r e)) n i)

/-- The denominators of one group, once the scores of its queries are known. -/
theorem denAll_apply (g : FVec Ideal S128x1024 .bf16) (q : FVec Ideal S1x256x512 .bf16) (k : FVec Ideal S8192x128 .bf16)
    (v : FVec Ideal S16x2x80x512 .bf16) (kc : FVec Ideal S256x128 .bf16) (vc : FVec Ideal S1x2x80x256 .bf16) (n : Fin 4) (i : Fin 512) (c : Fin 1024)
    (hg : ∀ f : Fin 128 → EReal, ∑ e : Fin 128, f e * (g (ix2 e c) : EReal) = score q f n i) (h : ℕ) (hh : h < 2) (hn : h = n / 2) :
    denAll g k v kc vc h hh (ix2 0 c) = weighted q k v kc vc n i 64 := by
  subst hn
  pointwise [denAll]
  simp only [den_apply, ctxPv_apply, ctxScores_apply, ctxVal_apply, weighted]
  simp only [← hg]

/-- The numerators of one group, once the scores of its queries are known. -/
theorem numAll_apply (g : FVec Ideal S128x1024 .bf16) (q : FVec Ideal S1x256x512 .bf16) (k : FVec Ideal S8192x128 .bf16)
    (v : FVec Ideal S16x2x80x512 .bf16) (kc : FVec Ideal S256x128 .bf16) (vc : FVec Ideal S1x2x80x256 .bf16) (n : Fin 4) (i : Fin 512) (d : Fin 64) (c : Fin 1024)
    (hg : ∀ f : Fin 128 → EReal, ∑ e : Fin 128, f e * (g (ix2 e c) : EReal) = score q f n i) (h : ℕ) (hh : h < 2) (hn : h = n / 2) :
    numAll g k v kc vc h hh (ix2 d c) = weighted q k v kc vc n i ⟨d, by omega⟩ := by
  subst hn
  pointwise [numAll]
  simp only [num_apply, ctxPv_apply, ctxScores_apply, ctxVal_apply, weighted]
  simp only [← hg]

/-- The stored block at a query, a head and a channel. -/
theorem stored_apply (q : FVec Ideal S1x256x512 .bf16) (k : FVec Ideal S8192x128 .bf16) (v : FVec Ideal S16x2x80x512 .bf16)
    (kc : FVec Ideal S256x128 .bf16) (vc : FVec Ideal S1x2x80x256 .bf16) (i : Fin 512) (n : Fin 4) (d : Fin 64) :
    stored q k v kc vc (ix2 i ⟨64 * n + d, by omega⟩) = Ideal.div (weighted q k v kc vc n i ⟨d, by omega⟩) (weighted q k v kc vc n i 64) := by
  have hc : 512 * ((n : ℕ) % 2) + i < 1024 := by omega
  by_cases hn : (n : ℕ) / 2 = 0
  · rw [← denAll_apply (k0_pay4 q) q k v kc vc n i ⟨_, hc⟩ (fun f => group0_apply q f n hn i _ rfl) 0 (by omega) hn.symm,
      ← numAll_apply (k0_pay4 q) q k v kc vc n i d ⟨_, hc⟩ (fun f => group0_apply q f n hn i _ rfl) 0 (by omega) hn.symm]
    unfold stored
    generalize denAll (k0_pay4 q) k v kc vc 0 _ = D
    generalize numAll (k0_pay4 q) k v kc vc 0 _ = N
    generalize denAll (k0_pay5 q) k v kc vc 1 _ = D'
    generalize numAll (k0_pay5 q) k v kc vc 1 _ = N'
    pointwise [k0_pay1]
    split_ifs <;> first | omega | (congr 3 <;> first | omega | (apply Fin.ext; dsimp only; omega))
  · have hn : (n : ℕ) / 2 = 1 := by omega
    rw [← denAll_apply (k0_pay5 q) q k v kc vc n i ⟨_, hc⟩ (fun f => group1_apply q f n hn i _ rfl) 1 (by omega) hn.symm,
      ← numAll_apply (k0_pay5 q) q k v kc vc n i d ⟨_, hc⟩ (fun f => group1_apply q f n hn i _ rfl) 1 (by omega) hn.symm]
    unfold stored
    generalize denAll (k0_pay4 q) k v kc vc 0 _ = D
    generalize numAll (k0_pay4 q) k v kc vc 0 _ = N
    generalize denAll (k0_pay5 q) k v kc vc 1 _ = D'
    generalize numAll (k0_pay5 q) k v kc vc 1 _ = N'
    pointwise [k0_pay1]
    split_ifs <;> first | omega | (congr 3 <;> first | omega | (apply Fin.ext; dsimp only; omega))

end Cert.KernelIdeal.Attn

end
-- ==== Proof.AttnArray.lean ====
/-
  The array that the attention kernel writes, as a formula of its three argument arrays.
-/
module

public import proofs.«01_k».proof.Proof.AttnValue
public import proofs.«01_k».proof.Proof.AttnSpec

@[expose] public section

set_option maxRecDepth 16384

noncomputable section

namespace Cert.KernelIdeal.Attn

open Idealize.ShloMosaic Idealize.ShloMosaic.TcCoe Idealize.SL.Sem
open Cert.KernelIdeal Cert.KernelIdeal.Gen

/-- Which block of its array each window holds at a grid point. -/
theorem idx : ∀ t : Fin cfg0.N, win0_0.index t = ![t.val, 0, 0] ∧ win0_1.index t = ![t.val / 16, 0] ∧ win0_2.index t = ![t.val / 16, 0, 0, 0]
    ∧ win0_3.index t = ![64 + t.val / 16, 0] ∧ win0_4.index t = ![32, 0, 0, t.val / 16] ∧ win0_5.index t = ![t.val, 0] ∧ t.val < 32 :=
  (by decide +kernel : ∀ t : Fin grid0.N, _)

variable (m : (ℓ : Loc nD τ sig) → Buf (Elt Ideal) ℓ) (c : Dev nD)

/-- The argument arrays. -/
abbrev argQ : FVec Ideal S33x256x512 .bf16 := m ((c.tc : Thread nD τ).loc main_arg0)
abbrev argK : FVec Ideal S16896x128 .bf16 := m ((c.tc : Thread nD τ).loc main_arg1)
abbrev argV : FVec Ideal S33x2x80x512 .bf16 := m ((c.tc : Thread nD τ).loc main_arg2)

theorem qBlk (t : Fin cfg0.N) (a : Fin 256) (i : Fin 512) :
    (iblk m c 0 t : FVec Ideal S1x256x512 .bf16) (ix3 0 a i) = argQ m c (ix3 ⟨t, by have := (idx t).2.2.2.2.2.2; omega⟩ a i) := by
  blk_ext [iblk, V, idx t]

theorem kBlk (t : Fin cfg0.N) (r : Fin 8192) (e : Fin 128) :
    (X0_1 m c t : FVec Ideal S8192x128 .bf16) (ix2 r e) = argK m c (ix2 ⟨8192 * (t / 16) + r, by have := (idx t).2.2.2.2.2.2; omega⟩ e) := by
  unfold X0_1 Pipeline.Window.fill
  rw [dif_pos (moved0_1 t (ix2 r e))]
  blk_ext [iblk, V, idx t]

theorem vBlk (t : Fin cfg0.N) (j : Fin 16) (h : Fin 2) (d : Fin 80) (r : Fin 512) :
    (X0_2 m c t : FVec Ideal S16x2x80x512 .bf16) (ix4 j h d r) = argV m c (ix4 ⟨16 * (t / 16) + j, by have := (idx t).2.2.2.2.2.2; omega⟩ h d r) := by
  unfold X0_2 Pipeline.Window.fill
  rw [dif_pos (moved0_2 t (ix4 j h d r))]
  blk_ext [iblk, V, idx t]

theorem kcBlk (t : Fin cfg0.N) (r : Fin 256) (e : Fin 128) :
    (iblk m c 3 t : FVec Ideal S256x128 .bf16) (ix2 r e) = argK m c (ix2 ⟨16384 + 256 * (t / 16) + r, by have := (idx t).2.2.2.2.2.2; omega⟩ e) := by
  blk_ext [iblk, V, idx t]

theorem vcBlk (t : Fin cfg0.N) (h : Fin 2) (d : Fin 80) (r : Fin 256) :
    (iblk m c 4 t : FVec Ideal S1x2x80x256 .bf16) (ix4 0 h d r) = argV m c (ix4 32 h d ⟨256 * (t / 16) + r, by have := (idx t).2.2.2.2.2.2; omega⟩) := by
  blk_ext [iblk, V, idx t]

/-- A sum over the key positions of a batch, the latent ones block by block and then the context's. -/
theorem sum_pos (f : Fin 8448 → EReal) :
    ∑ s, f s = (∑ j : Fin 16, ∑ r : Fin 512, f ⟨512 * j + r, by omega⟩) + ∑ r : Fin 256, f ⟨8192 + r, by omega⟩ := by
  have h : ∑ s, f s = ∑ s : Fin (8192 + 256), f s := rfl
  rw [h, Fin.sum_univ_add]
  refine congrArg₂ (· + ·) ?_ rfl
  refine ((Fin.sum_mul_add_congr (S := 16) (n := 512) (f := fun l : Fin 8192 => f (Fin.castAdd 256 l)) (fun j r _ => ?_) (by norm_num))).symm
  exact congrArg f (Fin.ext (by show 512 * (j : ℕ) + r = j * 512 + r; omega))

theorem pos_lat (b : Fin 2) (j : Fin 16) (r : Fin 512) : (AttnSpec.pos b ⟨512 * j + r, by omega⟩ : ℕ) = 8192 * b + 512 * j + r := by
  unfold AttnSpec.pos
  rw [if_pos (by dsimp only; omega)]
  dsimp only
  omega

theorem pos_ctx (b : Fin 2) (r : Fin 256) : (AttnSpec.pos b ⟨8192 + r, by omega⟩ : ℕ) = 16384 + 256 * b + r := by
  unfold AttnSpec.pos
  rw [if_neg (by dsimp only; omega)]
  dsimp only
  omega

/-- The score that a grid point works out is that of its batch, query and key row. -/
theorem score_eq (t : Fin cfg0.N) (n : Fin 4) (i : Fin 512) (f : Fin 128 → EReal) (s : Fin 8448) (ht : (t : ℕ) / 16 < 2)
    (hf : ∀ e, f e = argK m c (ix2 (AttnSpec.pos ⟨t / 16, ht⟩ s) e)) :
    score (iblk m c 0 t) f n i = AttnSpec.score (argQ m c) (argK m c) ⟨t / 16, ht⟩ ⟨512 * (t % 16) + i, by omega⟩ n s := by
  unfold score AttnSpec.score
  refine Finset.sum_congr rfl fun e _ => congrArg₂ (· * ·) (hf _) ((qBlk m c t _ i).trans (congrArg (argQ m c) ?_))
  refine congr (congrFun (congrArg ix3 (Fin.ext ?_)) _) (Fin.ext ?_) <;> (dsimp only; omega)

/-- The weighted sum that a grid point works out is that of its batch and query. -/
theorem weighted_eq (t : Fin cfg0.N) (n : Fin 4) (i : Fin 512) (d : Fin 80) (ht : (t : ℕ) / 16 < 2) :
    weighted (iblk m c 0 t) (X0_1 m c t) (X0_2 m c t) (iblk m c 3 t) (iblk m c 4 t) n i d
      = AttnSpec.weighted (argQ m c) (argK m c) (argV m c) ⟨t / 16, ht⟩ ⟨512 * (t % 16) + i, by omega⟩ n d := by
  unfold AttnSpec.weighted
  rw [sum_pos]
  unfold weighted
  refine congrArg₂ (· + ·) (Finset.sum_congr rfl fun j _ => Finset.sum_congr rfl fun r _ => congrArg₂ (· * ·) ?_ (congrArg Ideal.exp2 ?_))
    (Finset.sum_congr rfl fun r _ => congrArg₂ (· * ·) ?_ (congrArg Ideal.exp2 ?_))
  · refine (vBlk m c t j _ d r).trans (congrArg (argV m c) ?_)
    have := pos_lat ⟨t / 16, ht⟩ j r
    refine congr (congrFun (congrFun (congrArg ix4 (Fin.ext ?_)) _) _) (Fin.ext ?_) <;> (dsimp at this ⊢; omega)
  · refine score_eq m c t n i _ _ ht fun e => (kBlk m c t _ e).trans (congrArg (argK m c) ?_)
    refine congrFun (congrArg ix2 (Fin.ext ?_)) _
    rw [pos_lat]; dsimp only; omega
  · refine (vcBlk m c t _ d r).trans (congrArg (argV m c) ?_)
    have := pos_ctx ⟨t / 16, ht⟩ r
    refine congr (congrFun (congrFun (congrArg ix4 (Fin.ext ?_)) _) _) (Fin.ext ?_) <;> (dsimp at this ⊢; omega)
  · refine score_eq m c t n i _ _ ht fun e => (kcBlk m c t r e).trans (congrArg (argK m c) ?_)
    refine congrFun (congrArg ix2 (Fin.ext ?_)) _
    rw [pos_ctx]

/-- The kernel's result. -/
def result (q : FVec Ideal S33x256x512 .bf16) (k : FVec Ideal S16896x128 .bf16) (v : FVec Ideal S33x2x80x512 .bf16) : FVec Ideal S16384x256 .bf16 := fun j =>
  have h0 : (j 0).val < 16384 := (j 0).isLt
  have h1 : (j 1).val < 256 := (j 1).isLt
  let w := AttnSpec.weighted q k v ⟨(j 0).val / 8192, by omega⟩ ⟨(j 0).val % 8192, by omega⟩ ⟨(j 1).val / 64, by omega⟩
  Ideal.div (w ⟨(j 1).val % 64, by omega⟩) (w 64)

/-- The kernel's result at a batch, a query, a head and a channel. -/
theorem result_apply (q : FVec Ideal S33x256x512 .bf16) (k : FVec Ideal S16896x128 .bf16) (v : FVec Ideal S33x2x80x512 .bf16)
    (b : Fin 2) (i : Fin 8192) (n : Fin 4) (d : Fin 64) (j : S16384x256.Idx) (h0 : (j 0 : ℕ) = 8192 * b + i) (h1 : (j 1 : ℕ) = 64 * n + d) :
    result q k v j = Ideal.div (AttnSpec.weighted q k v b i n ⟨d, by omega⟩) (AttnSpec.weighted q k v b i n 64) := by
  have hb : (⟨(j 0 : ℕ) / 8192, by omega⟩ : Fin 2) = b := Fin.ext (by dsimp only; omega)
  have hi : (⟨(j 0 : ℕ) % 8192, by omega⟩ : Fin 8192) = i := Fin.ext (by dsimp only; omega)
  have hn : (⟨(j 1 : ℕ) / 64, by omega⟩ : Fin 4) = n := Fin.ext (by dsimp only; omega)
  have hd : (⟨(j 1 : ℕ) % 64, by omega⟩ : Fin 80) = ⟨d, by omega⟩ := Fin.ext (by dsimp only; omega)
  unfold result
  dsimp only
  rw [hb, hi, hn, hd]

theorem final : (dats m 0 c).arrAt 5 (cfgs 0).N = result (argQ m c) (argK m c) (argV m c) := by
  refine (dats m 0 c).arrAt_eq_of_covers 5 _ (by decide +kernel) fun t hf y => ?_
  blk_simp
  rw [after_eq]
  have ht := (idx t).2.2.2.2.2.2
  have h0 : (y 0 : ℕ) < 512 := (y 0).isLt
  have h1 : (y 1 : ℕ) < 256 := (y 1).isLt
  refine Eq.trans ?_ (result_apply _ _ _ ⟨t / 16, by omega⟩ ⟨512 * (t % 16) + y 0, by omega⟩ ⟨y 1 / 64, by omega⟩ ⟨y 1 % 64, by omega⟩ _ ?_ ?_).symm
  · rw [← weighted_eq m c t _ ⟨y 0, h0⟩, ← weighted_eq m c t _ ⟨y 0, h0⟩]
    refine Eq.trans ?_ (stored_apply _ _ _ _ _ ⟨y 0, h0⟩ ⟨y 1 / 64, by omega⟩ ⟨y 1 % 64, by omega⟩)
    refine congrArg (stored _ _ _ _ _) ?_
    blk_ext []
  · blk_simp [idx t]
    dsimp only
    omega
  · blk_simp [idx t]
    dsimp only
    omega

end Cert.KernelIdeal.Attn

end
-- ==== Proof.AttnPre.lean ====
/-
  What the precondition says of the arrays: the queries and keys are real numbers, and the values carry a row of ones.
-/
module

public import proofs.«01_k».proof.Pre_finite_and_ones
public import Idealize.ShloMosaic.Lib.ReduceAll
public import Idealize.ShloMosaic.Lib.Affine
public import Idealize.ShloMosaic.Lib.IdealHost
public import Idealize.ShloMosaic.Lib.Pointwise

@[expose] public section

set_option maxRecDepth 16384

noncomputable section

namespace Cert.Pre_finite_and_ones

open Idealize.ShloMosaic Idealize.ShloMosaic.TcCoe

theorem facts : Facts where
  bitsLt_bf16_f32 := by decide
  bcast_S_S33x256x512 := by decide
  reducesTo_S33x256x512_S_d0_1_2 := by decide
  h_S_ := by decide
  bcast_S_S16896x128 := by decide
  reducesTo_S16896x128_S_d0_1 := by decide
  slices_S33x2x80x512_S33x2x1x512_0_0_64_0 := by decide
  shapeCasts_S33x2x1x512_S33x2x512 := by decide
  bcast_S_S33x2x512 := by decide
  reducesTo_S33x2x512_S_d0_1_2 := by decide

/-- A number whose absolute value compares less than infinity is real. -/
theorem real_of_lt (x : EReal) (h : Ideal.cmp .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

theorem decode [Facts] (q : FVec Ideal S33x256x512 .bf16) (k : FVec Ideal S16896x128 .bf16) (v : FVec Ideal S33x2x80x512 .bf16)
    (h : fn (F := Ideal) q k v = fun _ => 1#1) :
    (∀ i, ∃ r : ℝ, q i = (r : EReal)) ∧ (∀ i, ∃ r : ℝ, k i = (r : EReal)) ∧ ∀ (a : Fin 33) (b : Fin 2) (r : Fin 512), v (ix4 a b 64 r) = (1 : EReal) := by
  have h := congrFun h ix0
  dsimp only [fn] at h
  obtain ⟨hqk, hv⟩ := IntOp.andi_eq_one.mp h
  obtain ⟨hq, hk⟩ := IntOp.andi_eq_one.mp hqk
  refine ⟨fun i => ?_, fun i => ?_, fun a b r => ?_⟩
  · have := Host.reduce_andi_all _ _ _ _ _ hq i
    exact real_of_lt _ this
  · have := Host.reduce_andi_all _ _ _ _ _ hk i
    exact real_of_lt _ this
  · have := Host.reduce_andi_all _ _ _ _ _ hv (ix3 a b r)
    pointwise at this
    by_contra hne
    rw [decide_eq_false hne] at this
    exact absurd this (by decide)

end Cert.Pre_finite_and_ones

end
-- ==== Proof.AttnEquation.lean ====
/-
  The kernel's attention and the reference's are one array.
-/
module

public import proofs.«01_k».proof.Proof.AttnReference
public import proofs.«01_k».proof.Proof.AttnArray
public import proofs.«01_k».proof.Proof.AttnPre

@[expose] public section

set_option maxRecDepth 16384

noncomputable section

namespace Cert.AttnSpec

open Idealize.ShloMosaic

/-- A finite sum of products of reals is a real. -/
theorem dot_real {ι : Type*} [Fintype ι] (f g : ι → EReal) (hf : ∀ e, ∃ r : ℝ, f e = r) (hg : ∀ e, ∃ r : ℝ, g e = r) :
    ∃ r : ℝ, ∑ e, f e * g e = (r : EReal) := by
  choose a ha using hf
  choose b hb using hg
  exact ⟨∑ e, a e * b e, by simp only [ha, hb, ← EReal.coe_mul, AttnSoftmax.sum_coe]⟩

theorem equation (q : FVec Ideal SQ .bf16) (k : FVec Ideal SK .bf16) (v : FVec Ideal SV .bf16) (hq : ∀ i, ∃ r : ℝ, q i = (r : EReal))
    (hk : ∀ i, ∃ r : ℝ, k i = (r : EReal)) (hv : ∀ (a : Fin 33) (b : Fin 2) (r : Fin 512), v (ix4 a b 64 r) = (1 : EReal)) :
    KernelIdeal.Attn.result q k v = ReferenceIdeal.Read.val_main_v40 (F := Ideal) q k v := by
  funext j
  have h0 : (j 0 : ℕ) < 16384 := (j 0).isLt
  have h1 : (j 1 : ℕ) < 256 := (j 1).isLt
  obtain ⟨b, hb⟩ : ∃ b : Fin 2, (b : ℕ) = j 0 / 8192 := ⟨⟨j 0 / 8192, by omega⟩, rfl⟩
  obtain ⟨i, hi⟩ : ∃ i : Fin 8192, (i : ℕ) = j 0 % 8192 := ⟨⟨j 0 % 8192, by omega⟩, rfl⟩
  obtain ⟨h, hh⟩ : ∃ h : Fin 2, (h : ℕ) = j 1 / 128 := ⟨⟨j 1 / 128, by omega⟩, rfl⟩
  obtain ⟨g, hg⟩ : ∃ g : Fin 2, (g : ℕ) = j 1 / 64 % 2 := ⟨⟨j 1 / 64 % 2, by omega⟩, rfl⟩
  obtain ⟨d, hd⟩ : ∃ d : Fin 64, (d : ℕ) = j 1 % 64 := ⟨⟨j 1 % 64, by omega⟩, rfl⟩
  have hx : ∀ s, ∃ x : ℝ, score q k b i ⟨2 * h + g, by omega⟩ s = x := fun s => dot_real _ _ (fun _ => hk _) (fun _ => hq _)
  choose x hx using hx
  rw [KernelIdeal.Attn.result_apply q k v b i ⟨2 * h + g, by omega⟩ d j (by omega) (by dsimp only; omega)]
  have hw : weighted q k v b i ⟨2 * h + g, by omega⟩ 64 = ∑ s, Ideal.exp2 (score q k b i ⟨2 * h + g, by omega⟩ s) := by
    unfold weighted value
    exact Finset.sum_congr rfl fun s _ => by rw [hv, one_mul]
  rw [hw]
  refine (ReferenceIdeal.Attn.result_apply q k v b h g i d x hx).symm.trans (congrArg (ReferenceIdeal.Read.val_main_v40 (F := Ideal) q k v) ?_)
  funext a
  fin_cases a
  · exact Fin.ext (by show 8192 * (b : ℕ) + i = (j 0 : ℕ); omega)
  · exact Fin.ext (by show 128 * (h : ℕ) + 64 * g + d = (j 1 : ℕ); omega)

end Cert.AttnSpec

end
-- ==== Proof.FfnSpec.lean ====
/-
  The mathematics of the feed-forward half step, of one row: its normalisation by the root of its mean square, the
  shift and scale of the modulation, the gated unit, and the residual with half the gate.
-/
module

public import Idealize.ShloMosaic.PureOps.Ideal
public import Idealize.ShloMosaic.Lib.IdealHost

@[expose] public section

noncomputable section

namespace Cert.FfnSpec

open Idealize.ShloMosaic

/-- A row of 1024 numbers over the root of its mean square. -/
def unit (x : Fin 1024 → EReal) (j : Fin 1024) : EReal :=
  x j * Ideal.rsqrt (Ideal.div (∑ a, x a * x a) (Ideal.ofBits .f32 0x44800000#32) + Ideal.ofBits .f32 0x358637BD#32)

/-- The normalised row, weighted, scaled and shifted. -/
def modulated (x g shift scale : Fin 1024 → EReal) (j : Fin 1024) : EReal := unit x j * g j * (1 + scale j) + shift j

/-- The gated unit's hidden row: a product with its first weights through `z / (1 + exp (-z))`, times that with its second. -/
def hidden {n : ℕ} (h : Fin 1024 → EReal) (wg wu : Fin 1024 → Fin n → EReal) (f : Fin n) : EReal :=
  (∑ a, h a * wg a f) * Ideal.logistic (∑ a, h a * wg a f) * ∑ a, h a * wu a f

/-- The half step: the row plus half the gate times the feed-forward of the modulated row. -/
def halfStep (x g shift scale gate : Fin 1024 → EReal) (wg wu : Fin 1024 → Fin 2816 → EReal) (wd : Fin 2816 → Fin 1024 → EReal) (j : Fin 1024) : EReal :=
  x j + Ideal.ofBits .f32 0x3F000000#32 * gate j * ∑ f, hidden (modulated x g shift scale) wg wu f * wd f j

/-- A sum over the hidden width, in the kernel's two parts. -/
theorem sum_hidden (f : Fin 2816 → EReal) :
    ∑ s, f s = (∑ r : Fin 1536, f ⟨r, by omega⟩) + ∑ r : Fin 1280, f ⟨1536 + r, by omega⟩ := by
  have h : ∑ s, f s = ∑ s : Fin (1536 + 1280), f s := rfl
  rw [h, Fin.sum_univ_add]
  rfl

end Cert.FfnSpec

end
-- ==== Proof.FfnReference.lean ====
/-
  The reference's half step read at a batch, a row and a channel.
-/
module

public import proofs.«01_k».proof.Proof.Gen.Reference2Ideal.Read
public import proofs.«01_k».proof.Proof.FfnSpec
public import Idealize.ShloMosaic.Lib.Pointwise

@[expose] public section

set_option maxRecDepth 16384

noncomputable section

namespace Cert.Reference2Ideal.Ffn

open Idealize.ShloMosaic Idealize.ShloMosaic.TcCoe Idealize.SL.Sem
open Cert.Reference2Ideal Cert.Reference2Ideal.Gen Cert.Reference2Ideal.Read

variable (X : FVec Ideal S2x8192x1024 .f32) (C : FVec Ideal S2x256x1024 .f32) (M : FVec Ideal S2x8x9x1024 .f32) (N : FVec Ideal S2x3x1024 .f32)
  (G U : FVec Ideal S2x2x1024x2816 .f32) (D : FVec Ideal S2x2x2816x1024 .f32)

theorem modulated_lat (b : Fin 2) (i : Fin 8192) (j : Fin 1024) :
    val_main_v43 (F := Ideal) X M N (ix3 b i j)
      = FfnSpec.modulated (fun a => X (ix3 b i a)) (fun a => N (ix3 0 0 a)) (fun a => M (ix4 0 ⟨b, by omega⟩ 0 a)) (fun a => M (ix4 0 ⟨b, by omega⟩ 1 a)) j := by
  unfold FfnSpec.modulated FfnSpec.unit
  pointwise [val_main_v43, val_main_v42, val_main_v41, val_main_v40, val_main_v39, val_main_v38, val_main_v37, val_main_v36, val_main_v35, val_main_v34,
    val_main_v33, val_main_v32, val_main_v31, val_main_v30, val_main_v29, val_main_v28, val_main_v27, val_main_v26, val_main_v25, val_main_v22, val_main_v21,
    val_main_v5, val_main_v4, val_main_v3, val_main_v2, val_main_v1, val_main_v0, val_main_cst_0, val_main_cst_1, val_main_cst_2, val_main_cst_3]

theorem modulated_ctx (b : Fin 2) (i : Fin 256) (j : Fin 1024) :
    val_main_v76 (F := Ideal) C M N (ix3 b i j)
      = FfnSpec.modulated (fun a => C (ix3 b i a)) (fun a => N (ix3 0 0 a)) (fun a => M (ix4 0 2 0 a)) (fun a => M (ix4 0 2 1 a)) j := by
  unfold FfnSpec.modulated FfnSpec.unit
  pointwise [val_main_v76, val_main_v75, val_main_v74, val_main_v73, val_main_v72, val_main_v71, val_main_v70, val_main_v69, val_main_v68, val_main_v67,
    val_main_v66, val_main_v65, val_main_v64, val_main_v63, val_main_v62, val_main_v61, val_main_v60, val_main_v59, val_main_v58, val_main_v57, val_main_v56,
    val_main_v53, val_main_v52, val_main_v12, val_main_v11, val_main_v10, val_main_v9, val_main_cst_5, val_main_cst_6, val_main_cst_7, val_main_cst_8]

theorem hidden_lat (b : Fin 2) (i : Fin 8192) (f : Fin 2816) :
    val_main_v47 (F := Ideal) X M N G U (ix3 b i f)
      = FfnSpec.hidden (fun a => val_main_v43 (F := Ideal) X M N (ix3 b i a)) (fun a f => G (ix4 0 0 a f)) (fun a f => U (ix4 0 0 a f)) f := by
  unfold FfnSpec.hidden
  pointwise [val_main_v47, val_main_v46, val_main_v45, val_main_call0_v5, val_main_call0_v4, val_main_call0_v3, val_main_call0_v2, val_main_call0_v1,
    val_main_call0_v0, val_main_call0_cst, val_main_call0_cst_0, val_main_v44, val_main_v18, val_main_v17, val_main_v16, val_main_v15]
  rfl

theorem hidden_ctx (b : Fin 2) (i : Fin 256) (f : Fin 2816) :
    val_main_v80 (F := Ideal) C M N G U (ix3 b i f)
      = FfnSpec.hidden (fun a => val_main_v76 (F := Ideal) C M N (ix3 b i a)) (fun a f => G (ix4 0 0 a f)) (fun a f => U (ix4 0 0 a f)) f := by
  unfold FfnSpec.hidden
  pointwise [val_main_v80, val_main_v79, val_main_v78, val_main_call1_v5, val_main_call1_v4, val_main_call1_v3, val_main_call1_v2, val_main_call1_v1,
    val_main_call1_v0, val_main_call1_cst, val_main_call1_cst_0, val_main_v77, val_main_v18, val_main_v17, val_main_v16, val_main_v15]
  rfl

/-- A latent row's half step. -/
theorem lat_apply (b : Fin 2) (i : Fin 8192) (j : Fin 1024) :
    val_main_v51 (F := Ideal) X M N G U D (ix3 b i j)
      = FfnSpec.halfStep (fun a => X (ix3 b i a)) (fun a => N (ix3 0 0 a)) (fun a => M (ix4 0 ⟨b, by omega⟩ 0 a)) (fun a => M (ix4 0 ⟨b, by omega⟩ 1 a))
          (fun a => M (ix4 0 ⟨b, by omega⟩ 2 a)) (fun a f => G (ix4 0 0 a f)) (fun a f => U (ix4 0 0 a f)) (fun f a => D (ix4 0 0 f a)) j := by
  unfold FfnSpec.halfStep
  pointwise [val_main_v51, val_main_v50, val_main_v49, val_main_v48, val_main_v24, val_main_v23, val_main_v20, val_main_v19, val_main_v8, val_main_v7,
    val_main_v6, val_main_cst]
  simp only [hidden_lat, modulated_lat]

/-- A context row's half step. -/
theorem ctx_apply (b : Fin 2) (i : Fin 256) (j : Fin 1024) :
    val_main_v85 (F := Ideal) C M N G U D (ix3 b i j)
      = FfnSpec.halfStep (fun a => C (ix3 b i a)) (fun a => N (ix3 0 0 a)) (fun a => M (ix4 0 2 0 a)) (fun a => M (ix4 0 2 1 a))
          (fun a => M (ix4 0 2 2 a)) (fun a f => G (ix4 0 0 a f)) (fun a f => U (ix4 0 0 a f)) (fun f a => D (ix4 0 0 f a)) j := by
  unfold FfnSpec.halfStep
  pointwise [val_main_v85, val_main_v84, val_main_v83, val_main_v82, val_main_v81, val_main_v55, val_main_v54, val_main_v20, val_main_v19, val_main_v14,
    val_main_v13, val_main_cst_4]
  simp only [hidden_ctx, modulated_ctx]

/-- The result's rows: the latent ones of both batches, and then the context's. -/
theorem result_apply (r : Fin 16896) (j : Fin 1024) :
    val_main_v88 (F := Ideal) X C M N G U D (ix2 r j)
      = if h : r.val < 16384 then val_main_v51 (F := Ideal) X M N G U D (ix3 ⟨r / 8192, by omega⟩ ⟨r % 8192, by omega⟩ j)
        else val_main_v85 (F := Ideal) C M N G U D (ix3 ⟨(r - 16384) / 256, by omega⟩ ⟨(r - 16384) % 256, by omega⟩ j) := by
  pointwise [val_main_v88, val_main_v87, val_main_v86]

end Cert.Reference2Ideal.Ffn

end
-- ==== Proof.FfnBlock.lean ====
/-
  What one grid point of the first feed-forward kernel stores, read at a row and a column.
-/
module

public import proofs.«01_k».proof.Proof.Gen.Kernel2Ideal.Value
public import proofs.«01_k».proof.Proof.FfnSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

/-- The normalised and modulated rows of a block. -/
theorem modulated_apply (i : grid0.Coords) (x0 x1 : FVec Ideal S512x1024 .f32) (sh sc g : FVec Ideal S1x1x1x1024 .f32) (r : Fin 512) (j : Fin 1024) :
    k0_pay4 (F := Ideal) i x0 x1 sh sc g (ix2 r j)
      = FfnSpec.modulated (fun a => k0_pay2 (F := Ideal) i x0 x1 (ix2 r a)) (fun a => g (ix4 0 0 0 a)) (fun a => sh (ix4 0 0 0 a)) (fun a => sc (ix4 0 0 0 a)) j := by
  unfold FfnSpec.modulated FfnSpec.unit
  generalize hx : k0_pay2 (F := Ideal) i x0 x1 = x
  unfold k0_pay4
  rw [hx]
  pointwise []

/-- The two parts of the feed-forward's product. -/
theorem product_apply (h : FVec Ideal S512x1024 .bf16) (wg0 wu0 : FVec Ideal S1x1x1024x1536 .bf16) (wd0 : FVec Ideal S1x1x1536x1024 .bf16)
    (wg1 wu1 : FVec Ideal S1x1x1024x1280 .bf16) (wd1 : FVec Ideal S1x1x1280x1024 .bf16) (r : Fin 512) (j : Fin 1024) :
    k0_pay5 (F := Ideal) h (Scalar.ofBits .f32 0x00000000#32) wg0 wu0 wd0 wg1 wu1 wd1 (ix2 r j)
      = (∑ f, FfnSpec.hidden (fun a => h (ix2 r a)) (fun a f => wg0 (ix4 0 0 a f)) (fun a f => wu0 (ix4 0 0 a f)) f * wd0 (ix4 0 0 f j))
        + ∑ f, FfnSpec.hidden (fun a => h (ix2 r a)) (fun a f => wg1 (ix4 0 0 a f)) (fun a f => wu1 (ix4 0 0 a f)) f * wd1 (ix4 0 0 f j) := by
  pointwise [k0_pay5, FfnSpec.hidden]

/-- The rows that a grid point takes: the latent ones before point 32, the context's from there. -/
theorem rows_apply (i : grid0.Coords) (x0 x1 : FVec Ideal S512x1024 .f32) (r : Fin 512) (a : Fin 1024) :
    k0_pay2 (F := Ideal) i x0 x1 (ix2 r a) = if (i 0).val < 32 then x0 (ix2 r a) else x1 (ix2 r a) := by
  pointwise [k0_pay2]
  have h : ∀ n : Fin 33, Scalar.cmpi .slt (BitVec.ofNat 32 n.val) 32#32 = if n.val < 32 then 1#1 else 0#1 := by decide +kernel
  rw [h ⟨(i 0).val, (i 0).isLt⟩]
  dsimp only
  split_ifs <;> rfl

theorem sum_apply (x : FVec Ideal S512x1024 .f32) (gt : FVec Ideal S1x1x1x1024 .f32) (y : FVec Ideal S512x1024 .f32) (r : Fin 512) (j : Fin 1024) :
    k0_pay1 (F := Ideal) x (k0_pay3 gt) y (Scalar.ofBits .f32 0x3F000000#32) (ix2 r j)
      = x (ix2 r j) + Ideal.ofBits .f32 0x3F000000#32 * gt (ix4 0 0 0 j) * y (ix2 r j) := by
  pointwise [k0_pay1, k0_pay3]

/-- The stored block at a row and a column: the half step of that row. -/
theorem stored_apply (i : grid0.Coords) (x0 x1 : FVec Ideal S512x1024 .f32) (md : FVec Ideal S1x1x9x1024 .f32) (g : FVec Ideal S1x1x1x1024 .f32)
    (wg wu : FVec Ideal S1x1x1024x2816 .bf16) (wd : FVec Ideal S1x1x2816x1024 .bf16) (r : Fin 512) (j : Fin 1024) :
    out0_7 (F := Ideal) i x0 x1 md g wg wu wd (ix2 r j)
      = FfnSpec.halfStep (fun a => if (i 0).val < 32 then x0 (ix2 r a) else x1 (ix2 r a)) (fun a => g (ix4 0 0 0 a)) (fun a => md (ix4 0 0 0 a))
          (fun a => md (ix4 0 0 1 a)) (fun a => md (ix4 0 0 2 a)) (fun a f => wg (ix4 0 0 a f)) (fun a f => wu (ix4 0 0 a f)) (fun f a => wd (ix4 0 0 f a)) j := by
  unfold out0_7
  rw [View.canon_cons_unit_lit']
  refine (sum_apply _ _ _ r j).trans ?_
  rw [product_apply]
  unfold FfnSpec.halfStep
  rw [FfnSpec.sum_hidden]
  simp only [modulated_apply, rows_apply]
  pointwise []
  · rfl
  · decide

end Cert.Kernel2Ideal.Ffn

end
-- ==== Proof.FfnArray.lean ====
/-
  The array that the first feed-forward kernel writes, as a formula of its argument arrays.
-/
module

public import proofs.«01_k».proof.Proof.FfnBlock
public import Idealize.ShloMosaic.Lib.Claim

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen

/-- Which block of its array each window holds at a grid point. -/
theorem idx : ∀ t : Fin cfg0.N, win0_0.index t = ![min t.val 31, 0] ∧ win0_1.index t = ![0, 0] ∧ win0_2.index t = ![0, t.val / 16, 0, 0]
    ∧ win0_3.index t = ![0, 0, 0, 0] ∧ win0_4.index t = ![0, 0, 0, 0] ∧ win0_5.index t = ![0, 0, 0, 0] ∧ win0_6.index t = ![0, 0, 0, 0]
    ∧ win0_7.index t = ![t.val, 0] ∧ (grid0.coords t 0).val = t.val ∧ t.val < 33 :=
  (by decide +kernel : ∀ t : Fin grid0.N, _)

variable (m : (ℓ : Loc nD τ sig) → Buf (Elt Ideal) ℓ) (c : Dev nD)

/-- The argument arrays. -/
abbrev argX : FVec Ideal S2x8192x1024 .f32 := m ((c.tc : Thread nD τ).loc main_arg0)
abbrev argC : FVec Ideal S2x256x1024 .f32 := m ((c.tc : Thread nD τ).loc main_arg1)
abbrev argM : FVec Ideal S2x8x9x1024 .f32 := m ((c.tc : Thread nD τ).loc main_arg2)
abbrev argN : FVec Ideal S2x3x1024 .f32 := m ((c.tc : Thread nD τ).loc main_arg3)
abbrev argG : FVec Ideal S2x2x1024x2816 .f32 := m ((c.tc : Thread nD τ).loc main_arg4)
abbrev argU : FVec Ideal S2x2x1024x2816 .f32 := m ((c.tc : Thread nD τ).loc main_arg5)
abbrev argD : FVec Ideal S2x2x2816x1024 .f32 := m ((c.tc : Thread nD τ).loc main_arg6)

theorem entryX : V m c main_v4 = (shapeCast S16384x1024 (argX m c) shapeCasts_S2x8192x1024_S16384x1024 : FVec Ideal S16384x1024 .f32) := by
  entry_read
  rfl

theorem entryC : V m c main_v5 = (shapeCast S512x1024 (argC m c) shapeCasts_S2x256x1024_S512x1024 : FVec Ideal S512x1024 .f32) := by
  entry_read
  rfl

theorem entryN : V m c main_v3 = (broadcastInDim S2x3x1x1024 ![0, 1, 3] bcast_S2x3x1024_S2x3x1x1024_0_1_3 (argN m c) : FVec Ideal S2x3x1x1024 .f32) := by
  entry_read
  rfl

theorem entryG : V m c main_v0 = (truncf .bf16 (argG m c) bitsLt_bf16_f32 : FVec Ideal S2x2x1024x2816 .bf16) := by
  entry_read
  rfl

theorem entryU : V m c main_v1 = (truncf .bf16 (argU m c) bitsLt_bf16_f32 : FVec Ideal S2x2x1024x2816 .bf16) := by
  entry_read
  rfl

theorem entryD : V m c main_v2 = (truncf .bf16 (argD m c) bitsLt_bf16_f32 : FVec Ideal S2x2x2816x1024 .bf16) := by
  entry_read
  rfl

theorem xBlk (t : Fin cfg0.N) (r : Fin 512) (a : Fin 1024) (ht : t.val < 32) :
    (iblk m c 0 t : FVec Ideal S512x1024 .f32) (ix2 r a) = argX m c (ix3 ⟨t / 16, by omega⟩ ⟨512 * (t % 16) + r, by omega⟩ a) := by
  have h : (iblk m c 0 t : FVec Ideal S512x1024 .f32) (ix2 r a) = (V m c main_v4 : FVec Ideal S16384x1024 .f32) (ix2 ⟨512 * t + r, by omega⟩ a) := by
    blk_ext [iblk, idx t]
  rw [h, entryX]
  pointwise []
  exact congrArg (argX m c) (congrArg₂ (fun b i => ix3 b i a) (Fin.ext (by dsimp only; omega)) (Fin.ext (by dsimp only; omega)))

theorem cBlk (t : Fin cfg0.N) (r : Fin 512) (a : Fin 1024) :
    (iblk m c 1 t : FVec Ideal S512x1024 .f32) (ix2 r a) = argC m c (ix3 ⟨r / 256, by omega⟩ ⟨r % 256, by omega⟩ a) := by
  have h : (iblk m c 1 t : FVec Ideal S512x1024 .f32) (ix2 r a) = (V m c main_v5 : FVec Ideal S512x1024 .f32) (ix2 r a) := by
    blk_ext [iblk, idx t]
  rw [h, entryC]
  pointwise []

theorem mBlk (t : Fin cfg0.N) (n : Fin 9) (a : Fin 1024) :
    (iblk m c 2 t : FVec Ideal S1x1x9x1024 .f32) (ix4 0 0 n a)
      = argM m c (ix4 0 ⟨t / 16, by have := (idx t).2.2.2.2.2.2.2.2.2; omega⟩ n a) := by
  blk_ext [iblk, V, idx t]

theorem nBlk (t : Fin cfg0.N) (a : Fin 1024) :
    (iblk m c 3 t : FVec Ideal S1x1x1x1024 .f32) (ix4 0 0 0 a) = argN m c (ix3 0 0 a) := by
  have h : (iblk m c 3 t : FVec Ideal S1x1x1x1024 .f32) (ix4 0 0 0 a) = (V m c main_v3 : FVec Ideal S2x3x1x1024 .f32) (ix4 0 0 0 a) := by
    blk_ext [iblk, idx t]
  rw [h, entryN]
  pointwise []

theorem gBlk (t : Fin cfg0.N) (a : Fin 1024) (f : Fin 2816) :
    (iblk m c 4 t : FVec Ideal S1x1x1024x2816 .bf16) (ix4 0 0 a f) = argG m c (ix4 0 0 a f) := by
  have h : (iblk m c 4 t : FVec Ideal S1x1x1024x2816 .bf16) (ix4 0 0 a f) = (V m c main_v0 : FVec Ideal S2x2x1024x2816 .bf16) (ix4 0 0 a f) := by
    blk_ext [iblk, idx t]
  rw [h, entryG]
  pointwise []

theorem uBlk (t : Fin cfg0.N) (a : Fin 1024) (f : Fin 2816) :
    (iblk m c 5 t : FVec Ideal S1x1x1024x2816 .bf16) (ix4 0 0 a f) = argU m c (ix4 0 0 a f) := by
  have h : (iblk m c 5 t : FVec Ideal S1x1x1024x2816 .bf16) (ix4 0 0 a f) = (V m c main_v1 : FVec Ideal S2x2x1024x2816 .bf16) (ix4 0 0 a f) := by
    blk_ext [iblk, idx t]
  rw [h, entryU]
  pointwise []

theorem dBlk (t : Fin cfg0.N) (f : Fin 2816) (a : Fin 1024) :
    (iblk m c 6 t : FVec Ideal S1x1x2816x1024 .bf16) (ix4 0 0 f a) = argD m c (ix4 0 0 f a) := by
  have h : (iblk m c 6 t : FVec Ideal S1x1x2816x1024 .bf16) (ix4 0 0 f a) = (V m c main_v2 : FVec Ideal S2x2x2816x1024 .bf16) (ix4 0 0 f a) := by
    blk_ext [iblk, idx t]
  rw [h, entryD]
  pointwise []

/-- The half step of one row, with the modulation vectors `n` of the first layer. -/
def half (M : FVec Ideal S2x8x9x1024 .f32) (N : FVec Ideal S2x3x1024 .f32) (G U : FVec Ideal S2x2x1024x2816 .f32) (D : FVec Ideal S2x2x2816x1024 .f32)
    (n : Fin 8) (x : Fin 1024 → EReal) : Fin 1024 → EReal :=
  FfnSpec.halfStep x (fun a => N (ix3 0 0 a)) (fun a => M (ix4 0 n 0 a)) (fun a => M (ix4 0 n 1 a)) (fun a => M (ix4 0 n 2 a))
    (fun a f => G (ix4 0 0 a f)) (fun a f => U (ix4 0 0 a f)) (fun f a => D (ix4 0 0 f a))

/-- The kernel's result: the latent rows and then the context rows. -/
def result (X : FVec Ideal S2x8192x1024 .f32) (C : FVec Ideal S2x256x1024 .f32) (M : FVec Ideal S2x8x9x1024 .f32) (N : FVec Ideal S2x3x1024 .f32)
    (G U : FVec Ideal S2x2x1024x2816 .f32) (D : FVec Ideal S2x2x2816x1024 .f32) : FVec Ideal S16896x1024 .f32 := fun j =>
  have h : (j 0).val < 16896 := (j 0).isLt
  if hl : (j 0).val < 16384 then half M N G U D ⟨(j 0).val / 8192, by omega⟩ (fun a => X (ix3 ⟨(j 0).val / 8192, by omega⟩ ⟨(j 0).val % 8192, by omega⟩ a)) (j 1)
  else half M N G U D 2 (fun a => C (ix3 ⟨((j 0).val - 16384) / 256, by omega⟩ ⟨((j 0).val - 16384) % 256, by omega⟩ a)) (j 1)

theorem result_lat (X : FVec Ideal S2x8192x1024 .f32) (C : FVec Ideal S2x256x1024 .f32) (M : FVec Ideal S2x8x9x1024 .f32) (N : FVec Ideal S2x3x1024 .f32)
    (G U : FVec Ideal S2x2x1024x2816 .f32) (D : FVec Ideal S2x2x2816x1024 .f32) (b : Fin 2) (i : Fin 8192) (n : Fin 8) (a : Fin 1024) (j : S16896x1024.Idx)
    (h0 : (j 0 : ℕ) = 8192 * b + i) (hn : (n : ℕ) = b) (h1 : (j 1 : ℕ) = a) :
    result X C M N G U D j = half M N G U D n (fun e => X (ix3 b i e)) a := by
  have hb : (⟨(j 0 : ℕ) / 8192, by omega⟩ : Fin 2) = b := Fin.ext (by dsimp only; omega)
  have hi : (⟨(j 0 : ℕ) % 8192, by omega⟩ : Fin 8192) = i := Fin.ext (by dsimp only; omega)
  have hm : (⟨(j 0 : ℕ) / 8192, by omega⟩ : Fin 8) = n := Fin.ext (by dsimp only; omega)
  have ha : (⟨(j 1 : ℕ), by omega⟩ : Fin 1024) = a := Fin.ext h1
  unfold result
  dsimp only
  rw [dif_pos (by omega), hb, hi, hm, ← ha]
  rfl

theorem result_ctx (X : FVec Ideal S2x8192x1024 .f32) (C : FVec Ideal S2x256x1024 .f32) (M : FVec Ideal S2x8x9x1024 .f32) (N : FVec Ideal S2x3x1024 .f32)
    (G U : FVec Ideal S2x2x1024x2816 .f32) (D : FVec Ideal S2x2x2816x1024 .f32) (b : Fin 2) (i : Fin 256) (n : Fin 8) (a : Fin 1024) (j : S16896x1024.Idx)
    (h0 : (j 0 : ℕ) = 16384 + 256 * b + i) (hn : (n : ℕ) = 2) (h1 : (j 1 : ℕ) = a) :
    result X C M N G U D j = half M N G U D n (fun e => C (ix3 b i e)) a := by
  have hb : (⟨((j 0 : ℕ) - 16384) / 256, by omega⟩ : Fin 2) = b := Fin.ext (by dsimp only; omega)
  have hi : (⟨((j 0 : ℕ) - 16384) % 256, by omega⟩ : Fin 256) = i := Fin.ext (by dsimp only; omega)
  have hm : (2 : Fin 8) = n := Fin.ext hn.symm
  have ha : (⟨(j 1 : ℕ), by omega⟩ : Fin 1024) = a := Fin.ext h1
  unfold result
  dsimp only
  rw [dif_neg (by omega), hb, hi, hm, ← ha]
  rfl

/-- A stored block at a row and a channel. -/
theorem after_apply (t : Fin cfg0.N) (r : Fin 512) (j : Fin 1024) (n : Fin 8) (hn : (n : ℕ) = t / 16) :
    out0_7 (grid0.coords t) (iblk m c 0 t) (iblk m c 1 t) (iblk m c 2 t) (iblk m c 3 t) (iblk m c 4 t) (iblk m c 5 t) (iblk m c 6 t) (ix2 r j)
      = half (argM m c) (argN m c) (argG m c) (argU m c) (argD m c) n
        (fun a => if t.val < 32 then (iblk m c 0 t : FVec Ideal S512x1024 .f32) (ix2 r a) else (iblk m c 1 t : FVec Ideal S512x1024 .f32) (ix2 r a)) j := by
  refine (stored_apply _ _ _ _ _ _ _ _ r j).trans ?_
  have e : n = ⟨t / 16, by omega⟩ := Fin.ext hn
  simp only [mBlk, nBlk, gBlk, uBlk, dBlk, (idx t).2.2.2.2.2.2.2.2.1, e]
  rfl

theorem final : (dats m 0 c).arrAt 7 (cfgs 0).N = result (argX m c) (argC m c) (argM m c) (argN m c) (argG m c) (argU m c) (argD m c) := by
  refine (dats m 0 c).arrAt_eq_of_covers 7 _ (by decide +kernel) fun t hf y => ?_
  blk_simp
  rw [after0_7]
  have ht := (idx t).2.2.2.2.2.2.2.2.2
  have h0 : (y 0 : ℕ) < 512 := (y 0).isLt
  have h1 : (y 1 : ℕ) < 1024 := (y 1).isLt
  refine Eq.trans (congrArg (out0_7 _ _ _ _ _ _ _ _) (?_ : _ = ix2 ⟨y 0, h0⟩ ⟨y 1, h1⟩)) ?_
  · blk_ext []
  refine (after_apply m c t ⟨y 0, h0⟩ ⟨y 1, h1⟩ ⟨t / 16, by omega⟩ rfl).trans ?_
  by_cases hl : t.val < 32
  · refine Eq.trans ?_ (result_lat _ _ _ _ _ _ _ ⟨t / 16, by omega⟩ ⟨512 * (t % 16) + y 0, by omega⟩ ⟨t / 16, by omega⟩ ⟨y 1, h1⟩ _ ?_ rfl ?_).symm
    · refine congrFun (congrArg (half _ _ _ _ _ _) (funext fun a => ?_)) _
      rw [if_pos hl]
      exact xBlk m c t _ a hl
    · blk_simp [idx t]
      dsimp only
      omega
    · blk_simp [idx t]
  · refine Eq.trans ?_ (result_ctx _ _ _ _ _ _ _ ⟨y 0 / 256, by omega⟩ ⟨y 0 % 256, by omega⟩ ⟨t / 16, by omega⟩ ⟨y 1, h1⟩ _ ?_ (by dsimp only; omega) ?_).symm
    · refine congrFun (congrArg (half _ _ _ _ _ _) (funext fun a => ?_)) _
      rw [if_neg hl]
      exact cBlk m c t _ a
    · blk_simp [idx t]
      dsimp only
      omega
    · blk_simp [idx t]

end Cert.Kernel2Ideal.Ffn
-- ==== Proof.FfnEquation.lean ====
/-
  The kernel's half step and the reference's are one array.
-/
module

public import proofs.«01_k».proof.Proof.FfnReference
public import proofs.«01_k».proof.Proof.FfnArray

@[expose] public section

set_option maxRecDepth 16384

noncomputable section

namespace Cert.FfnSpec

open Idealize.ShloMosaic Cert.Kernel2Ideal

theorem equation (X : FVec Ideal S2x8192x1024 .f32) (C : FVec Ideal S2x256x1024 .f32) (M : FVec Ideal S2x8x9x1024 .f32) (N : FVec Ideal S2x3x1024 .f32)
    (G U : FVec Ideal S2x2x1024x2816 .f32) (D : FVec Ideal S2x2x2816x1024 .f32) :
    Kernel2Ideal.Ffn.result X C M N G U D = Reference2Ideal.Read.val_main_v88 (F := Ideal) X C M N G U D := by
  funext j
  have h0 : (j 0 : ℕ) < 16896 := (j 0).isLt
  have h1 : (j 1 : ℕ) < 1024 := (j 1).isLt
  have hj : j = ix2 ⟨j 0, h0⟩ ⟨j 1, h1⟩ := by funext a; fin_cases a <;> rfl
  refine Eq.trans ?_ (congrArg (Reference2Ideal.Read.val_main_v88 (F := Ideal) X C M N G U D) hj).symm
  rw [Reference2Ideal.Ffn.result_apply]
  by_cases hl : (j 0 : ℕ) < 16384
  · rw [dif_pos hl, Reference2Ideal.Ffn.lat_apply]
    exact Kernel2Ideal.Ffn.result_lat X C M N G U D ⟨j 0 / 8192, by omega⟩ ⟨j 0 % 8192, by omega⟩ ⟨j 0 / 8192, by omega⟩ ⟨j 1, h1⟩ j (by dsimp only; omega) rfl rfl
  · rw [dif_neg hl, Reference2Ideal.Ffn.ctx_apply]
    exact Kernel2Ideal.Ffn.result_ctx X C M N G U D ⟨(j 0 - 16384) / 256, by omega⟩ ⟨(j 0 - 16384) % 256, by omega⟩ 2 ⟨j 1, h1⟩ j (by dsimp only; omega) rfl rfl

end Cert.FfnSpec

end
-- ==== Proof.MixSpec.lean ====
/-
  The mathematics of the out-projection and second feed-forward, of one row: the gated group norm of the linear
  attention's part, the four mixers' parts side by side, the residual with their projection, and the last norm.
-/
module

public import proofs.«01_k».proof.Proof.FfnSpec

@[expose] public section

noncomputable section

namespace Cert.MixSpec

open Idealize.ShloMosaic

/-- A part of four groups of 64, each over the root of its own mean square, weighted and gated. -/
def gated (y : Fin 256 → EReal) (g : Fin 64 → EReal) (o : Fin 256 → EReal) (d : Fin 256) : EReal :=
  y d * Ideal.rsqrt (Ideal.div (∑ e : Fin 64, y ⟨64 * (d / 64) + e, by omega⟩ * y ⟨64 * (d / 64) + e, by omega⟩) (Ideal.ofBits .f32 0x42800000#32)
    + Ideal.ofBits .f32 0x358637BD#32) * g ⟨d % 64, by omega⟩ * (o d * Ideal.logistic (o d))

/-- The four parts of a row side by side. -/
def joined (p l a f : Fin 256 → EReal) (k : Fin 1024) : EReal :=
  if h0 : k.val < 256 then p ⟨k, h0⟩
  else if h1 : k.val - 256 < 256 then l ⟨k - 256, h1⟩
  else if h2 : k.val - 256 - 256 < 256 then a ⟨k - 256 - 256, h2⟩
  else f ⟨k - 256 - 256 - 256, by omega⟩

/-- The row plus the gated projection of the mixers' row. -/
def projected (x gate y : Fin 1024 → EReal) (w : Fin 1024 → Fin 1024 → EReal) (j : Fin 1024) : EReal :=
  x j + gate j * ∑ k, y k * w k j

/-- The half step's row over the root of its mean square, weighted. -/
def last (x : Fin 1024 → EReal) (fg : Fin 1024 → EReal) (j : Fin 1024) : EReal := FfnSpec.unit x j * fg j

/-- A sum against the table of groups is the sum over the group. -/
theorem sum_group (f : Fin 256 → EReal) (d : Fin 256) :
    ∑ k : Fin 256, f k * (if (k : ℕ) / 64 = d / 64 then 1 else 0) = ∑ e : Fin 64, f ⟨64 * (d / 64) + e, by omega⟩ := by
  simp only [mul_ite, mul_one, mul_zero]
  rw [← Finset.sum_filter]
  refine Finset.sum_nbij' (fun k => ⟨k % 64, by omega⟩) (fun e => ⟨64 * (d / 64) + e, by omega⟩) ?_ ?_ ?_ ?_ ?_
  · intro k _; exact Finset.mem_univ _
  · intro e _; simp only [Finset.mem_filter, Finset.mem_univ, true_and]; omega
  · intro k hk
    simp only [Finset.mem_filter, Finset.mem_univ, true_and] at hk
    exact Fin.ext (by dsimp only; omega)
  · intro e _; exact Fin.ext (by dsimp only; omega)
  · intro k hk
    simp only [Finset.mem_filter, Finset.mem_univ, true_and] at hk
    exact congrArg f (Fin.ext (by dsimp only; omega))

/-- One sixty-fourth of a number is the number over 64. -/
theorem mul_sixtyfourth (s : EReal) : s * Ideal.ofBits .f32 0x3C800000#32 = Ideal.div s (Ideal.ofBits .f32 0x42800000#32) := by
  have h1 : Ideal.ofBits .f32 0x42800000#32 = ((64 : ℝ) : EReal) := by
    simp [Ideal.ofBits, Ideal.ieee]; norm_cast <;> norm_num
  have h2 : Ideal.ofBits .f32 0x3C800000#32 = ((1 / 64 : ℝ) : EReal) := by
    simp [Ideal.ofBits, Ideal.ieee]; norm_cast <;> norm_num
  rw [h1, h2, Ideal.div_coe (by norm_num)]

end Cert.MixSpec

end
-- ==== Proof.MixBlock.lean ====
/-
  What one grid point of the second feed-forward kernel stores, read at a row and a column.
-/
module

public import proofs.«01_k».proof.Proof.Gen.Kernel3Ideal.Skeleton
public import proofs.«01_k».proof.Proof.MixSpec
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel3Ideal.Mix

open Idealize.ShloMosaic Idealize.ShloMosaic.TcCoe Idealize.SL.Sem
open Cert.Kernel3Ideal Cert.Kernel3Ideal.Gen

/-- The modulation vector `n` of a grid point. -/
def modRow (md : FVec Ideal S1x1x9x1024 .f32) (n : ℕ) (h : n < 9) : FVec Ideal S1x1x1x1024 .f32 :=
  View.ld (Val := Elt Ideal) (e' := .f32) md (Rect.unit (s := S1x1x9x1024) ![0, 0, n, 0] S1x1x1x1024.size (by intro a; fin_cases a <;> simp <;> omega))

/-- The two parts of the feed-forward's weights. -/
def wide0 (w : FVec Ideal S1x1x1024x2816 .bf16) : FVec Ideal S1x1x1024x1536 .bf16 :=
  View.ld (Val := Elt Ideal) (e' := .bf16) w (Rect.unit (s := S1x1x1024x2816) ![0, 0, 0, 0] S1x1x1024x1536.size (by intro a; fin_cases a <;> simp))
def wide1 (w : FVec Ideal S1x1x1024x2816 .bf16) : FVec Ideal S1x1x1024x1280 .bf16 :=
  View.ld (Val := Elt Ideal) (e' := .bf16) w (Rect.unit (s := S1x1x1024x2816) ![0, 0, 0, 1536] S1x1x1024x1280.size (by intro a; fin_cases a <;> simp))
def tall0 (w : FVec Ideal S1x1x2816x1024 .bf16) : FVec Ideal S1x1x1536x1024 .bf16 :=
  View.ld (Val := Elt Ideal) (e' := .bf16) w (Rect.unit (s := S1x1x2816x1024) ![0, 0, 0, 0] S1x1x1536x1024.size (by intro a; fin_cases a <;> simp))
def tall1 (w : FVec Ideal S1x1x2816x1024 .bf16) : FVec Ideal S1x1x1280x1024 .bf16 :=
  View.ld (Val := Elt Ideal) (e' := .bf16) w (Rect.unit (s := S1x1x2816x1024) ![0, 0, 1536, 0] S1x1x1280x1024.size (by intro a; fin_cases a <;> simp))

theorem modRow_apply (md : FVec Ideal S1x1x9x1024 .f32) (n : ℕ) (h : n < 9) (a : Fin 1024) : modRow md n h (ix4 0 0 0 a) = md (ix4 0 0 ⟨n, h⟩ a) := by
  pointwise [modRow]

theorem wide0_apply (w : FVec Ideal S1x1x1024x2816 .bf16) (a : Fin 1024) (f : Fin 1536) : wide0 w (ix4 0 0 a f) = w (ix4 0 0 a ⟨f, by omega⟩) := by
  pointwise [wide0]

theorem wide1_apply (w : FVec Ideal S1x1x1024x2816 .bf16) (a : Fin 1024) (f : Fin 1280) : wide1 w (ix4 0 0 a f) = w (ix4 0 0 a ⟨1536 + f, by omega⟩) := by
  pointwise [wide1]

theorem tall0_apply (w : FVec Ideal S1x1x2816x1024 .bf16) (f : Fin 1536) (a : Fin 1024) : tall0 w (ix4 0 0 f a) = w (ix4 0 0 ⟨f, by omega⟩ a) := by
  pointwise [tall0]

theorem tall1_apply (w : FVec Ideal S1x1x2816x1024 .bf16) (f : Fin 1280) (a : Fin 1024) : tall1 w (ix4 0 0 f a) = w (ix4 0 0 ⟨1536 + f, by omega⟩ a) := by
  pointwise [tall1]

variable (x : FVec Ideal S512x1024 .f32) (md : FVec Ideal S1x1x9x1024 .f32) (p : FVec Ideal S512x256 .f32) (l : FVec Ideal S1x512x256 .f32)
  (a : FVec Ideal S512x256 .bf16) (f o : FVec Ideal S512x256 .f32) (g : FVec Ideal S1x256 .f32) (e : FVec Ideal S256x256 .bf16)
  (wo : FVec Ideal S1x1024x1024 .bf16) (ng : FVec Ideal S1x1x1x1024 .f32) (wg wu : FVec Ideal S1x1x1024x2816 .bf16) (wd : FVec Ideal S1x1x2816x1024 .bf16)
  (z : FVec Ideal S1x1024 .f32)

/-- The mixers' rows side by side. -/
abbrev mixers : FVec Ideal S512x1024 .bf16 := k0_pay2 (F := Ideal) p l a f e g o

/-- The rows after the out-projection. -/
abbrev after1 : FVec Ideal S512x1024 .f32 := k0_pay5 (F := Ideal) (mixers p l a f o g e) x (k0_pay3 (modRow md 5 (by decide))) (k0_pay4 wo)

/-- The rows after the feed-forward. -/
abbrev after2 : FVec Ideal S512x1024 .f32 :=
  k0_pay10 (F := Ideal) (after1 x md p l a f o g e wo) (k0_pay6 (modRow md 8 (by decide)))
    (k0_pay7 (mixers p l a f o g e) x (k0_pay3 (modRow md 5 (by decide))) (k0_pay4 wo) (modRow md 6 (by decide)) (modRow md 7 (by decide)) ng) k0_pay8
    (k0_pay9 (wide0 wg)) (wide0 wu) (tall0 wd) (wide1 wg) (wide1 wu) (tall1 wd)

/-- What is stored. -/
def stored : FVec Ideal S512x1024 .f32 :=
  k0_pay1 (F := Ideal) (after2 x md p l a f o g e wo ng wg wu wd)
    (mulf (after2 x md p l a f o g e wo ng wg wu wd) (after2 x md p l a f o g e wo ng wg wu wd)) z

/-- The table of groups, as a block of bits. -/
def IsTable : Prop := ∀ k d : Fin 256, e (ix2 k d) = if (k : ℕ) / 64 = (d : ℕ) / 64 then 1 else 0

/-- The mixers' rows: the second part is the gated group norm. -/
theorem mixers_apply (he : IsTable e) (rg : Fin 64 → EReal) (hg : ∀ d : Fin 256, g (ix2 0 d) = rg ⟨d % 64, by omega⟩) (r : Fin 512) (k : Fin 1024) :
    mixers p l a f o g e (ix2 r k)
      = MixSpec.joined (fun d => p (ix2 r d)) (MixSpec.gated (fun d => l (ix3 0 r d)) rg (fun d => o (ix2 r d))) (fun d => a (ix2 r d)) (fun d => f (ix2 r d)) k := by
  have hgate : ∀ d : Fin 256, MixSpec.gated (fun d => l (ix3 0 r d)) rg (fun d => o (ix2 r d)) d
      = l (ix3 0 r d) * Ideal.rsqrt ((∑ k : Fin 256, l (ix3 0 r k) * l (ix3 0 r k) * e (ix2 k d)) * Ideal.ofBits .f32 0x3C800000#32
        + Ideal.ofBits .f32 0x358637BD#32) * g (ix2 0 d) * (o (ix2 r d) * Ideal.logistic (o (ix2 r d))) := fun d => by
    unfold MixSpec.gated
    simp only [he _ _, hg]
    rw [MixSpec.sum_group (fun k => l (ix3 0 r k) * l (ix3 0 r k)), MixSpec.mul_sixtyfourth]
  unfold MixSpec.joined
  simp only [hgate]
  pointwise [mixers, k0_pay2]

theorem after1_apply (r : Fin 512) (j : Fin 1024) :
    after1 x md p l a f o g e wo (ix2 r j)
      = MixSpec.projected (fun b => x (ix2 r b)) (fun b => md (ix4 0 0 5 b)) (fun k => mixers p l a f o g e (ix2 r k)) (fun k b => wo (ix3 0 k b)) j := by
  unfold MixSpec.projected after1
  generalize mixers p l a f o g e = y
  pointwise [k0_pay5, k0_pay3, k0_pay4, modRow_apply]

theorem modulated_apply (r : Fin 512) (j : Fin 1024) :
    k0_pay7 (F := Ideal) (mixers p l a f o g e) x (k0_pay3 (modRow md 5 (by decide))) (k0_pay4 wo) (modRow md 6 (by decide)) (modRow md 7 (by decide)) ng (ix2 r j)
      = FfnSpec.modulated (fun b => after1 x md p l a f o g e wo (ix2 r b)) (fun b => ng (ix4 0 0 0 b)) (fun b => md (ix4 0 0 6 b)) (fun b => md (ix4 0 0 7 b)) j := by
  unfold FfnSpec.modulated FfnSpec.unit
  generalize hx : after1 x md p l a f o g e wo = y
  unfold after1 at hx
  unfold k0_pay7
  rw [hx]
  pointwise [modRow_apply]

/-- The rows after the feed-forward, of any rows before it. -/
theorem product_apply (x1 : FVec Ideal S512x1024 .f32) (gt : FVec Ideal S1x1x1x1024 .f32) (h : FVec Ideal S512x1024 .bf16)
    (wg0 wu0 : FVec Ideal S1x1x1024x1536 .bf16) (wd0 : FVec Ideal S1x1x1536x1024 .bf16)
    (wg1 wu1 : FVec Ideal S1x1x1024x1280 .bf16) (wd1 : FVec Ideal S1x1x1280x1024 .bf16) (r : Fin 512) (j : Fin 1024) :
    k0_pay10 (F := Ideal) x1 (k0_pay6 gt) h k0_pay8 (k0_pay9 wg0) wu0 wd0 wg1 wu1 wd1 (ix2 r j)
      = x1 (ix2 r j) + Ideal.ofBits .f32 0x3F000000#32 * gt (ix4 0 0 0 j)
        * ((∑ f, FfnSpec.hidden (fun a => h (ix2 r a)) (fun a f => wg0 (ix4 0 0 a f)) (fun a f => wu0 (ix4 0 0 a f)) f * wd0 (ix4 0 0 f j))
        + ∑ f, FfnSpec.hidden (fun a => h (ix2 r a)) (fun a f => wg1 (ix4 0 0 a f)) (fun a f => wu1 (ix4 0 0 a f)) f * wd1 (ix4 0 0 f j)) := by
  pointwise [k0_pay10, k0_pay6, k0_pay8, k0_pay9, FfnSpec.hidden]

theorem after2_apply (r : Fin 512) (j : Fin 1024) :
    after2 x md p l a f o g e wo ng wg wu wd (ix2 r j)
      = FfnSpec.halfStep (fun b => after1 x md p l a f o g e wo (ix2 r b)) (fun b => ng (ix4 0 0 0 b)) (fun b => md (ix4 0 0 6 b)) (fun b => md (ix4 0 0 7 b))
          (fun b => md (ix4 0 0 8 b)) (fun b s => wg (ix4 0 0 b s)) (fun b s => wu (ix4 0 0 b s)) (fun s b => wd (ix4 0 0 s b)) j := by
  unfold after2
  rw [product_apply]
  unfold FfnSpec.halfStep
  rw [FfnSpec.sum_hidden]
  simp only [modulated_apply, modRow_apply, wide0_apply, wide1_apply, tall0_apply, tall1_apply]
  rfl

/-- The stored block at a row and a column. -/
theorem stored_apply (he : IsTable e) (rg : Fin 64 → EReal) (hg : ∀ d : Fin 256, g (ix2 0 d) = rg ⟨d % 64, by omega⟩) (r : Fin 512) (j : Fin 1024) :
    stored x md p l a f o g e wo ng wg wu wd z (ix2 r j)
      = MixSpec.last (FfnSpec.halfStep
          (MixSpec.projected (fun b => x (ix2 r b)) (fun b => md (ix4 0 0 5 b))
            (MixSpec.joined (fun d => p (ix2 r d)) (MixSpec.gated (fun d => l (ix3 0 r d)) rg (fun d => o (ix2 r d))) (fun d => a (ix2 r d)) (fun d => f (ix2 r d)))
            (fun k b => wo (ix3 0 k b)))
          (fun b => ng (ix4 0 0 0 b)) (fun b => md (ix4 0 0 6 b)) (fun b => md (ix4 0 0 7 b))
          (fun b => md (ix4 0 0 8 b)) (fun b s => wg (ix4 0 0 b s)) (fun b s => wu (ix4 0 0 b s)) (fun s b => wd (ix4 0 0 s b))) (fun b => z (ix2 0 b)) j := by
  have h1 : (fun k => mixers p l a f o g e (ix2 r k)) = _ := funext fun k => mixers_apply p l a f o g e he rg hg r k
  have h2 : (fun b => after1 x md p l a f o g e wo (ix2 r b)) = _ := funext fun b => after1_apply x md p l a f o g e wo r b
  have h3 : (fun b => after2 x md p l a f o g e wo ng wg wu wd (ix2 r b)) = _ := funext fun b => after2_apply x md p l a f o g e wo ng wg wu wd r b
  rw [h1] at h2
  rw [h2] at h3
  rw [← h3]
  unfold stored MixSpec.last FfnSpec.unit
  generalize after2 x md p l a f o g e wo ng wg wu wd = y
  pointwise [k0_pay1]

end Cert.Kernel3Ideal.Mix

end
-- ==== Proof.MixRun.lean ====
/-
  What the second feed-forward program leaves in its result: the kernel's array, read as two batches.
-/
module

public import proofs.«01_k».proof.Proof.Gen.Kernel3Ideal.Frame
public import proofs.«01_k».proof.Proof.MixBlock
public import Idealize.ShloMosaic.Lib.Claim

@[expose] public section

set_option maxRecDepth 16384

noncomputable section

namespace Cert.Kernel3Ideal.Mix

open Idealize.ShloMosaic Idealize.ShloMosaic.TcCoe Idealize.SL.Sem
open Cert.Kernel3Ideal Cert.Kernel3Ideal.Gen

variable (m : (ℓ : Loc nD τ sig) → Buf (Elt Ideal) ℓ)

/-- The result after the host line that follows the kernel. -/
theorem tail_eq (c : Dev nD) : Pipeline.afterTail₀ cfgs (dats m) 0 (V0 m) [hostOps1] c main_v13
    = (shapeCast S2x8192x1024 ((dats m 0 c).arrAt 15 cfg0.N : FVec Ideal S16384x1024 .f32) shapeCasts_S16384x1024_S2x8192x1024 : FVec Ideal S2x8192x1024 .f32) := by
  unfold Pipeline.afterTail₀
  have h := Pipeline.withArrays_arr spec0 launch0.win.arr_inj c (V0 m c) (fun w => (dats m 0 c).arrAt w cfg0.N) 15
  rw [← h]
  rfl

set_option maxHeartbeats 4000000 in
/-- What a grid point leaves in the result's block. -/
theorem after_eq (c : Dev nD) (t : Fin cfg0.N) :
    (dats m 0 c).after 15 t = stored (iblk m c 0 t) (iblk m c 1 t) (iblk m c 2 t) (X0_3 m c t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) := by
  rw [after0_15]
  unfold outsAt0
  frame_open
  simp (disch := decide) only [↓ View.readCov_skip, ↓ View.readCov_cons_toLoadRect, ↓ View.readCov_fill]
  frame_out
  rfl

/-- The program's run: its result is the kernel's array, and its arguments are as they were. -/
theorem run (ρ : Dev nD → PrngReg) : θ_run defs (onTc (τ := τ) (main (F := Ideal))) ⟨m, fun _ => 0, ρ⟩ (fun r => ∀ c : Dev nD,
    r.2.mem ((c.tc : Thread nD τ).loc main_v13)
      = (shapeCast S2x8192x1024 ((dats m 0 c).arrAt 15 cfg0.N : FVec Ideal S16384x1024 .f32) shapeCasts_S16384x1024_S2x8192x1024 : FVec Ideal S2x8192x1024 .f32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)) := by
  refine (θ_run _ _ _).mono (fun r h c => ⟨?_, h.2 c⟩) (θ_run_and (run_main m ρ) (unchanged m ρ))
  exact ((h.1 c).2 main_v13 (Pipeline.mem_restRefs_of main_v13 (by decide) (by decide))).trans (tail_eq m c)

end Cert.Kernel3Ideal.Mix

end
-- ==== Proof.MixTable.lean ====
/-
  The table of ones that the second feed-forward call's group norm multiplies by: one where a row and a column
  belong to the same group of 64, and zero elsewhere.
-/
module

public import proofs.«01_k».proof.Kernel3Ideal

@[expose] public section

set_option maxRecDepth 16384
set_option maxHeartbeats 4000000

namespace Cert.Kernel3Ideal.Mix

/-- A run of 128 entries whose first half is ones. -/
theorem ones_zeros (i : ℕ) : lit0t0_0 i = if i % 128 < 64 then 0x3F80#16 else 0x0000#16 := by
  have h : ∀ r : Fin 128, lit0t0_0 r = if r.val % 128 < 64 then 0x3F80#16 else 0x0000#16 := by decide +kernel
  have e : lit0t0_0 (i % 128) = lit0t0_0 i := by delta lit0t0_0; rw [Nat.mod_mod]
  rw [← e, h ⟨i % 128, Nat.mod_lt _ (by decide)⟩]
  dsimp only
  rw [Nat.mod_mod]

/-- A run of 128 zeros. -/
theorem zeros (i : ℕ) : lit0t0_1 i = 0x0000#16 := by
  have h : ∀ r : Fin 128, lit0t0_1 r = 0x0000#16 := by decide +kernel
  have e : lit0t0_1 (i % 128) = lit0t0_1 i := by delta lit0t0_1; rw [Nat.mod_mod]
  rw [← e, h ⟨i % 128, Nat.mod_lt _ (by decide)⟩]

/-- A run of 128 entries whose second half is ones. -/
theorem zeros_ones (i : ℕ) : lit0t0_128 i = if i % 128 < 64 then 0x0000#16 else 0x3F80#16 := by
  have h : ∀ r : Fin 128, lit0t0_128 r = if r.val % 128 < 64 then 0x0000#16 else 0x3F80#16 := by decide +kernel
  have e : lit0t0_128 (i % 128) = lit0t0_128 i := by delta lit0t0_128; rw [Nat.mod_mod]
  rw [← e, h ⟨i % 128, Nat.mod_lt _ (by decide)⟩]
  dsimp only
  rw [Nat.mod_mod]

/-- Entry `i` of the table, in reading order, says whether its row and its column are of one group. -/
theorem lit0_eq (i : ℕ) (hi : i < 65536) :
    lit0t i = if i / 16384 = i % 256 / 64 then 0x3F80#16 else 0x0000#16 := by
  delta lit0t
  split
  all_goals try first | delta lit0t1_0 | delta lit0t1_1 | delta lit0t1_2 | delta lit0t1_3
  all_goals try split
  all_goals first
    | (refine (zeros i).trans ?_; split_ifs <;> first | rfl | omega)
    | (refine (ones_zeros i).trans ?_; split_ifs <;> first | rfl | omega)
    | (refine (zeros_ones i).trans ?_; split_ifs <;> first | rfl | omega)
    | (exfalso
       have hl : i / 128 % 128 < 128 := Nat.mod_lt _ (by decide)
       generalize i / 128 % 128 = n at *
       simp only [imp_false] at *
       omega)

end Cert.Kernel3Ideal.Mix
-- ==== Proof.MixArray.lean ====
/-
  The array that the second feed-forward kernel writes, as a formula of its argument arrays.
-/
module

public import proofs.«01_k».proof.Proof.MixRun
public import proofs.«01_k».proof.Proof.MixTable

@[expose] public section

set_option maxRecDepth 16384

noncomputable section

namespace Cert.Kernel3Ideal.Mix

open Idealize.ShloMosaic Idealize.ShloMosaic.TcCoe Idealize.SL.Sem
open Cert.Kernel3Ideal Cert.Kernel3Ideal.Gen

/-- Which block of its array each window of the rows holds at a grid point. -/
theorem idx : ∀ t : Fin cfg0.N, win0_0.index t = ![t.val, 0] ∧ win0_1.index t = ![1, t.val / 16, 0, 0] ∧ win0_2.index t = ![t.val, 0]
    ∧ win0_3.index t = ![t.val / 16, t.val % 16, 0] ∧ win0_4.index t = ![t.val, 0] ∧ win0_5.index t = ![t.val, 0] ∧ win0_6.index t = ![t.val, 0]
    ∧ win0_15.index t = ![t.val, 0] ∧ t.val < 32 :=
  (by decide +kernel : ∀ t : Fin grid0.N, _)

/-- And each window of the weights. -/
theorem idw : ∀ t : Fin cfg0.N, win0_7.index t = ![0, 0] ∧ win0_8.index t = ![0, 0] ∧ win0_9.index t = ![1, 0, 0] ∧ win0_10.index t = ![1, 2, 0, 0]
    ∧ win0_11.index t = ![1, 1, 0, 0] ∧ win0_12.index t = ![1, 1, 0, 0] ∧ win0_13.index t = ![1, 1, 0, 0] ∧ win0_14.index t = ![0, 0] :=
  (by decide +kernel : ∀ t : Fin grid0.N, _)

variable (m : (ℓ : Loc nD τ sig) → Buf (Elt Ideal) ℓ) (c : Dev nD)

/-- The argument arrays. -/
abbrev argX : FVec Ideal S16896x1024 .f32 := m ((c.tc : Thread nD τ).loc main_arg0)
abbrev argM : FVec Ideal S2x8x9x1024 .f32 := m ((c.tc : Thread nD τ).loc main_arg1)
abbrev argP : FVec Ideal S16384x256 .f32 := m ((c.tc : Thread nD τ).loc main_arg2)
abbrev argL : FVec Ideal S2x8448x256 .f32 := m ((c.tc : Thread nD τ).loc main_arg3)
abbrev argA : FVec Ideal S16384x256 .bf16 := m ((c.tc : Thread nD τ).loc main_arg4)
abbrev argT : FVec Ideal S16384x256 .f32 := m ((c.tc : Thread nD τ).loc main_arg5)
abbrev argO : FVec Ideal S16896x256 .f32 := m ((c.tc : Thread nD τ).loc main_arg6)
abbrev argR : FVec Ideal S2x64 .f32 := m ((c.tc : Thread nD τ).loc main_arg7)
abbrev argW : FVec Ideal S2x1024x1024 .f32 := m ((c.tc : Thread nD τ).loc main_arg8)
abbrev argN : FVec Ideal S2x3x1024 .f32 := m ((c.tc : Thread nD τ).loc main_arg9)
abbrev argG : FVec Ideal S2x2x1024x2816 .f32 := m ((c.tc : Thread nD τ).loc main_arg10)
abbrev argU : FVec Ideal S2x2x1024x2816 .f32 := m ((c.tc : Thread nD τ).loc main_arg11)
abbrev argD : FVec Ideal S2x2x2816x1024 .f32 := m ((c.tc : Thread nD τ).loc main_arg12)
abbrev argZ : FVec Ideal S1024 .f32 := m ((c.tc : Thread nD τ).loc main_arg13)

theorem entryG : V m c main_v0 = (truncf .bf16 (argG m c) bitsLt_bf16_f32 : FVec Ideal S2x2x1024x2816 .bf16) := by
  entry_read
  rfl

theorem entryU : V m c main_v1 = (truncf .bf16 (argU m c) bitsLt_bf16_f32 : FVec Ideal S2x2x1024x2816 .bf16) := by
  entry_read
  rfl

theorem entryD : V m c main_v2 = (truncf .bf16 (argD m c) bitsLt_bf16_f32 : FVec Ideal S2x2x2816x1024 .bf16) := by
  entry_read
  rfl

theorem entryW : V m c main_v3 = (truncf .bf16 (argW m c) bitsLt_bf16_f32 : FVec Ideal S2x1024x1024 .bf16) := by
  entry_read
  rfl

theorem entryN : V m c main_v4 = (broadcastInDim S2x3x1x1024 ![0, 1, 3] bcast_S2x3x1024_S2x3x1x1024_0_1_3 (argN m c) : FVec Ideal S2x3x1x1024 .f32) := by
  entry_read
  rfl

theorem entryZ : V m c main_v11 = (shapeCast S1x1024 (argZ m c) shapeCasts_S1024_S1x1024 : FVec Ideal S1x1024 .f32) := by
  entry_read
  rfl

theorem entryR : V m c main_v10 = (broadcastInDim S1x256 ![1] bcast_S256_S1x256_1 (shapeCast S256 (broadcastInDim S4x64 ![0, 1] bcast_S1x64_S4x64_0_1
    (shapeCast S1x64 (shapeCast S64 (extractStridedSlice S1x64 ![1, 0] (argR m c) slices_S2x64_S1x64_1_0) shapeCasts_S1x64_S64) shapeCasts_S64_S1x64))
    shapeCasts_S4x64_S256) : FVec Ideal S1x256 .f32) := by
  entry_read
  rfl

theorem entryE : V m c main_cst = ((fun i => Ideal.ofBits .bf16 (lit0 (S256x256.rowMajor i))) : FVec Ideal S256x256 .bf16) := by
  entry_read
  rfl

theorem xBlk (t : Fin cfg0.N) (r : Fin 512) (a : Fin 1024) :
    (iblk m c 0 t : FVec Ideal S512x1024 .f32) (ix2 r a) = argX m c (ix2 ⟨512 * t + r, by have := (idx t).2.2.2.2.2.2.2.2; omega⟩ a) := by
  blk_ext [iblk, V, idx t]

theorem mBlk (t : Fin cfg0.N) (n : Fin 9) (a : Fin 1024) :
    (iblk m c 1 t : FVec Ideal S1x1x9x1024 .f32) (ix4 0 0 n a) = argM m c (ix4 1 ⟨t / 16, by have := (idx t).2.2.2.2.2.2.2.2; omega⟩ n a) := by
  blk_ext [iblk, V, idx t]

theorem pBlk (t : Fin cfg0.N) (r : Fin 512) (a : Fin 256) :
    (iblk m c 2 t : FVec Ideal S512x256 .f32) (ix2 r a) = argP m c (ix2 ⟨512 * t + r, by have := (idx t).2.2.2.2.2.2.2.2; omega⟩ a) := by
  blk_ext [iblk, V, idx t]

theorem lBlk (t : Fin cfg0.N) (r : Fin 512) (a : Fin 256) :
    (X0_3 m c t : FVec Ideal S1x512x256 .f32) (ix3 0 r a)
      = argL m c (ix3 ⟨t / 16, by have := (idx t).2.2.2.2.2.2.2.2; omega⟩ ⟨512 * (t % 16) + r, by omega⟩ a) := by
  unfold X0_3 Pipeline.Window.fill
  rw [dif_pos (moved0_3 t (ix3 0 r a))]
  blk_ext [iblk, V, idx t]

theorem aBlk (t : Fin cfg0.N) (r : Fin 512) (a : Fin 256) :
    (iblk m c 4 t : FVec Ideal S512x256 .bf16) (ix2 r a) = argA m c (ix2 ⟨512 * t + r, by have := (idx t).2.2.2.2.2.2.2.2; omega⟩ a) := by
  blk_ext [iblk, V, idx t]

theorem tBlk (t : Fin cfg0.N) (r : Fin 512) (a : Fin 256) :
    (iblk m c 5 t : FVec Ideal S512x256 .f32) (ix2 r a) = argT m c (ix2 ⟨512 * t + r, by have := (idx t).2.2.2.2.2.2.2.2; omega⟩ a) := by
  blk_ext [iblk, V, idx t]

theorem oBlk (t : Fin cfg0.N) (r : Fin 512) (a : Fin 256) :
    (iblk m c 6 t : FVec Ideal S512x256 .f32) (ix2 r a) = argO m c (ix2 ⟨512 * t + r, by have := (idx t).2.2.2.2.2.2.2.2; omega⟩ a) := by
  blk_ext [iblk, V, idx t]

theorem rBlk (t : Fin cfg0.N) (a : Fin 256) :
    (iblk m c 7 t : FVec Ideal S1x256 .f32) (ix2 0 a) = argR m c (ix2 1 ⟨a % 64, by omega⟩) := by
  have h : (iblk m c 7 t : FVec Ideal S1x256 .f32) (ix2 0 a) = (V m c main_v10 : FVec Ideal S1x256 .f32) (ix2 0 a) := by
    blk_ext [iblk, idw t]
  rw [h, entryR]
  pointwise []

theorem eBlk (t : Fin cfg0.N) : IsTable (iblk m c 8 t) := fun k d => by
  have h : (iblk m c 8 t : FVec Ideal S256x256 .bf16) (ix2 k d) = (V m c main_cst : FVec Ideal S256x256 .bf16) (ix2 k d) := by
    blk_ext [iblk, idw t]
  have hr : ((S256x256.rowMajor (ix2 k d) : Fin _) : ℕ) = 256 * k + d := by
    rw [Shape.rowMajor_val_two]
    exact congrArg (· + (d : ℕ)) (Nat.mul_comm _ _)
  have hl : lit0 (S256x256.rowMajor (ix2 k d)) = lit0t (256 * k + d) := by
    rw [← hr]
  rw [h, entryE]
  dsimp only
  rw [hl, lit0_eq _ (by omega)]
  by_cases hk : (k : ℕ) / 64 = d / 64
  · rw [if_pos (by omega), if_pos hk]
    exact Ideal.ofBits_one_bf16
  · rw [if_neg (by omega), if_neg hk]
    exact Ideal.ofBits_zero_bf16

theorem wBlk (t : Fin cfg0.N) (k a : Fin 1024) :
    (iblk m c 9 t : FVec Ideal S1x1024x1024 .bf16) (ix3 0 k a) = argW m c (ix3 1 k a) := by
  have h : (iblk m c 9 t : FVec Ideal S1x1024x1024 .bf16) (ix3 0 k a) = (V m c main_v3 : FVec Ideal S2x1024x1024 .bf16) (ix3 1 k a) := by
    blk_ext [iblk, idw t]
  rw [h, entryW]
  pointwise []

theorem nBlk (t : Fin cfg0.N) (a : Fin 1024) :
    (iblk m c 10 t : FVec Ideal S1x1x1x1024 .f32) (ix4 0 0 0 a) = argN m c (ix3 1 2 a) := by
  have h : (iblk m c 10 t : FVec Ideal S1x1x1x1024 .f32) (ix4 0 0 0 a) = (V m c main_v4 : FVec Ideal S2x3x1x1024 .f32) (ix4 1 2 0 a) := by
    blk_ext [iblk, idw t]
  rw [h, entryN]
  pointwise []

theorem gBlk (t : Fin cfg0.N) (a : Fin 1024) (f : Fin 2816) :
    (iblk m c 11 t : FVec Ideal S1x1x1024x2816 .bf16) (ix4 0 0 a f) = argG m c (ix4 1 1 a f) := by
  have h : (iblk m c 11 t : FVec Ideal S1x1x1024x2816 .bf16) (ix4 0 0 a f) = (V m c main_v0 : FVec Ideal S2x2x1024x2816 .bf16) (ix4 1 1 a f) := by
    blk_ext [iblk, idw t]
  rw [h, entryG]
  pointwise []

theorem uBlk (t : Fin cfg0.N) (a : Fin 1024) (f : Fin 2816) :
    (iblk m c 12 t : FVec Ideal S1x1x1024x2816 .bf16) (ix4 0 0 a f) = argU m c (ix4 1 1 a f) := by
  have h : (iblk m c 12 t : FVec Ideal S1x1x1024x2816 .bf16) (ix4 0 0 a f) = (V m c main_v1 : FVec Ideal S2x2x1024x2816 .bf16) (ix4 1 1 a f) := by
    blk_ext [iblk, idw t]
  rw [h, entryU]
  pointwise []

theorem dBlk (t : Fin cfg0.N) (f : Fin 2816) (a : Fin 1024) :
    (iblk m c 13 t : FVec Ideal S1x1x2816x1024 .bf16) (ix4 0 0 f a) = argD m c (ix4 1 1 f a) := by
  have h : (iblk m c 13 t : FVec Ideal S1x1x2816x1024 .bf16) (ix4 0 0 f a) = (V m c main_v2 : FVec Ideal S2x2x2816x1024 .bf16) (ix4 1 1 f a) := by
    blk_ext [iblk, idw t]
  rw [h, entryD]
  pointwise []

theorem zBlk (t : Fin cfg0.N) (a : Fin 1024) :
    (iblk m c 14 t : FVec Ideal S1x1024 .f32) (ix2 0 a) = argZ m c (ix1 a) := by
  have h : (iblk m c 14 t : FVec Ideal S1x1024 .f32) (ix2 0 a) = (V m c main_v11 : FVec Ideal S1x1024 .f32) (ix2 0 a) := by
    blk_ext [iblk, idw t]
  rw [h, entryZ]
  pointwise []

/-- The result's row of a batch's token. -/
def row (X : FVec Ideal S16896x1024 .f32) (M : FVec Ideal S2x8x9x1024 .f32) (P : FVec Ideal S16384x256 .f32) (L : FVec Ideal S2x8448x256 .f32)
    (A : FVec Ideal S16384x256 .bf16) (T : FVec Ideal S16384x256 .f32) (O : FVec Ideal S16896x256 .f32) (R : FVec Ideal S2x64 .f32)
    (W : FVec Ideal S2x1024x1024 .f32) (N : FVec Ideal S2x3x1024 .f32) (G U : FVec Ideal S2x2x1024x2816 .f32) (D : FVec Ideal S2x2x2816x1024 .f32)
    (Z : FVec Ideal S1024 .f32) (b : Fin 2) (i : Fin 8192) : Fin 1024 → EReal :=
  MixSpec.last
    (FfnSpec.halfStep
      (MixSpec.projected (fun a => X (ix2 ⟨8192 * b + i, by omega⟩ a)) (fun a => M (ix4 1 ⟨b, by omega⟩ 5 a))
        (MixSpec.joined (fun e => P (ix2 ⟨8192 * b + i, by omega⟩ e))
          (MixSpec.gated (fun e => L (ix3 b ⟨i, by omega⟩ e)) (fun e => R (ix2 1 e)) (fun e => O (ix2 ⟨8192 * b + i, by omega⟩ e)))
          (fun e => A (ix2 ⟨8192 * b + i, by omega⟩ e)) (fun e => T (ix2 ⟨8192 * b + i, by omega⟩ e)))
        (fun k a => W (ix3 1 k a)))
      (fun a => N (ix3 1 2 a)) (fun a => M (ix4 1 ⟨b, by omega⟩ 6 a)) (fun a => M (ix4 1 ⟨b, by omega⟩ 7 a)) (fun a => M (ix4 1 ⟨b, by omega⟩ 8 a))
      (fun a f => G (ix4 1 1 a f)) (fun a f => U (ix4 1 1 a f)) (fun f a => D (ix4 1 1 f a)))
    (fun a => Z (ix1 a))

/-- The kernel's array: the rows of the two batches, one batch after the other. -/
def result (X : FVec Ideal S16896x1024 .f32) (M : FVec Ideal S2x8x9x1024 .f32) (P : FVec Ideal S16384x256 .f32) (L : FVec Ideal S2x8448x256 .f32)
    (A : FVec Ideal S16384x256 .bf16) (T : FVec Ideal S16384x256 .f32) (O : FVec Ideal S16896x256 .f32) (R : FVec Ideal S2x64 .f32)
    (W : FVec Ideal S2x1024x1024 .f32) (N : FVec Ideal S2x3x1024 .f32) (G U : FVec Ideal S2x2x1024x2816 .f32) (D : FVec Ideal S2x2x2816x1024 .f32)
    (Z : FVec Ideal S1024 .f32) : FVec Ideal S16384x1024 .f32 := fun j =>
  have h : (j 0).val < 16384 := (j 0).isLt
  row X M P L A T O R W N G U D Z ⟨(j 0).val / 8192, by omega⟩ ⟨(j 0).val % 8192, by omega⟩ (j 1)

/-- A stored block at a row and a channel. -/
theorem stored_row (t : Fin cfg0.N) (ht : t.val < 32) (r : Fin 512) (j : Fin 1024) :
    stored (iblk m c 0 t) (iblk m c 1 t) (iblk m c 2 t) (X0_3 m c t) (iblk m c 4 t) (iblk m c 5 t) (iblk m c 6 t) (iblk m c 7 t) (iblk m c 8 t) (iblk m c 9 t)
        (iblk m c 10 t) (iblk m c 11 t) (iblk m c 12 t) (iblk m c 13 t) (iblk m c 14 t) (ix2 r j)
      = row (argX m c) (argM m c) (argP m c) (argL m c) (argA m c) (argT m c) (argO m c) (argR m c) (argW m c) (argN m c) (argG m c) (argU m c) (argD m c)
          (argZ m c) ⟨t / 16, by omega⟩ ⟨512 * (t % 16) + r, by omega⟩ j := by
  refine (stored_apply _ _ _ _ _ _ _ _ _ _ _ _ _ _ _ (eBlk m c t) (fun e => argR m c (ix2 1 e)) (rBlk m c t) r j).trans ?_
  have e3 : (⟨512 * t + r, by omega⟩ : Fin 16896) = ⟨8192 * (t / 16) + (512 * (t % 16) + r), by omega⟩ := Fin.ext (by dsimp only; omega)
  have e4 : (⟨512 * t + r, by omega⟩ : Fin 16384) = ⟨8192 * (t / 16) + (512 * (t % 16) + r), by omega⟩ := Fin.ext (by dsimp only; omega)
  simp only [xBlk, mBlk, pBlk, lBlk, aBlk, tBlk, oBlk, wBlk, nBlk, gBlk, uBlk, dBlk, zBlk, e3, e4]
  rfl

end Cert.Kernel3Ideal.Mix

end
-- ==== Proof.MixFinal.lean ====
/-
  The array that the second feed-forward kernel writes is the rows of the two batches, one batch after the other.
-/
module

public import proofs.«01_k».proof.Proof.MixArray

@[expose] public section

set_option maxRecDepth 16384

noncomputable section

namespace Cert.Kernel3Ideal.Mix

open Idealize.ShloMosaic Idealize.ShloMosaic.TcCoe Idealize.SL.Sem
open Cert.Kernel3Ideal Cert.Kernel3Ideal.Gen

variable (m : (ℓ : Loc nD τ sig) → Buf (Elt Ideal) ℓ) (c : Dev nD)

theorem result_apply (X : FVec Ideal S16896x1024 .f32) (M : FVec Ideal S2x8x9x1024 .f32) (P : FVec Ideal S16384x256 .f32) (L : FVec Ideal S2x8448x256 .f32)
    (A : FVec Ideal S16384x256 .bf16) (T : FVec Ideal S16384x256 .f32) (O : FVec Ideal S16896x256 .f32) (R : FVec Ideal S2x64 .f32)
    (W : FVec Ideal S2x1024x1024 .f32) (N : FVec Ideal S2x3x1024 .f32) (G U : FVec Ideal S2x2x1024x2816 .f32) (D : FVec Ideal S2x2x2816x1024 .f32)
    (Z : FVec Ideal S1024 .f32) (b : Fin 2) (i : Fin 8192) (a : Fin 1024) (j : S16384x1024.Idx) (h0 : (j 0 : ℕ) = 8192 * b + i) (h1 : (j 1 : ℕ) = a) :
    result X M P L A T O R W N G U D Z j = row X M P L A T O R W N G U D Z b i a := by
  have hb : (⟨(j 0 : ℕ) / 8192, by omega⟩ : Fin 2) = b := Fin.ext (by dsimp only; omega)
  have hi : (⟨(j 0 : ℕ) % 8192, by omega⟩ : Fin 8192) = i := Fin.ext (by dsimp only; omega)
  have ha : (⟨(j 1 : ℕ), by omega⟩ : Fin 1024) = a := Fin.ext h1
  unfold result
  dsimp only
  rw [hb, hi, ← ha]
  rfl

theorem stored_result (t : Fin cfg0.N) (r : Fin 512) (j : Fin 1024) (z : S16384x1024.Idx) (h0 : (z 0 : ℕ) = 512 * t + r) (h1 : (z 1 : ℕ) = j) :
    stored (iblk m c 0 t) (iblk m c 1 t) (iblk m c 2 t) (X0_3 m c t) (iblk m c 4 t) (iblk m c 5 t) (iblk m c 6 t) (iblk m c 7 t) (iblk m c 8 t) (iblk m c 9 t)
        (iblk m c 10 t) (iblk m c 11 t) (iblk m c 12 t) (iblk m c 13 t) (iblk m c 14 t) (ix2 r j)
      = result (argX m c) (argM m c) (argP m c) (argL m c) (argA m c) (argT m c) (argO m c) (argR m c) (argW m c) (argN m c) (argG m c) (argU m c) (argD m c)
          (argZ m c) z := by
  have ht := (idx t).2.2.2.2.2.2.2.2
  exact (stored_row m c t ht r j).trans (result_apply _ _ _ _ _ _ _ _ _ _ _ _ _ _ _ _ _ z (by dsimp only; omega) h1).symm

theorem final : (dats m 0 c).arrAt 15 cfg0.N = result (argX m c) (argM m c) (argP m c) (argL m c) (argA m c) (argT m c) (argO m c) (argR m c) (argW m c)
    (argN m c) (argG m c) (argU m c) (argD m c) (argZ m c) := by
  refine (dats m 0 c).arrAt_eq_of_covers 15 _ (by decide +kernel) fun t hf y => ?_
  have h0 : (y 0 : ℕ) < 512 := (y 0).isLt
  have h1 : (y 1 : ℕ) < 1024 := (y 1).isLt
  blk_simp
  rw [after_eq]
  refine Eq.trans (congrArg (stored _ _ _ _ _ _ _ _ _ _ _ _ _ _ _) (?_ : _ = ix2 ⟨y 0, h0⟩ ⟨y 1, h1⟩)) ?_
  · blk_ext []
  refine stored_result m c t ⟨y 0, h0⟩ ⟨y 1, h1⟩ _ ?_ ?_
  · blk_simp [idx t]
    dsimp only
    omega
  · blk_simp [idx t]

end Cert.Kernel3Ideal.Mix

end
-- ==== Proof.MixReference.lean ====
/-
  The reference's out-projection, second half step and last norm, read at a batch, a row and a channel.
-/
module

public import proofs.«01_k».proof.Proof.Gen.Reference3Ideal.Read
public import proofs.«01_k».proof.Proof.MixSpec
public import Idealize.ShloMosaic.Lib.Pointwise

@[expose] public section

set_option maxRecDepth 16384

noncomputable section

namespace Cert.Reference3Ideal.Mix

open Idealize.ShloMosaic Idealize.ShloMosaic.TcCoe Idealize.SL.Sem
open Cert.Reference3Ideal Cert.Reference3Ideal.Gen Cert.Reference3Ideal.Read

variable (X : FVec Ideal S16896x1024 .f32) (M : FVec Ideal S2x8x9x1024 .f32) (P : FVec Ideal S16384x256 .f32) (L : FVec Ideal S2x8448x256 .f32)
  (A : FVec Ideal S16384x256 .bf16) (T : FVec Ideal S16384x256 .f32) (O : FVec Ideal S16896x256 .f32) (R : FVec Ideal S2x64 .f32)
  (W : FVec Ideal S2x1024x1024 .f32) (N : FVec Ideal S2x3x1024 .f32) (G U : FVec Ideal S2x2x1024x2816 .f32) (D : FVec Ideal S2x2x2816x1024 .f32)
  (Z : FVec Ideal S1024 .f32)

theorem gated_apply (b : Fin 2) (i : Fin 8192) (d : Fin 256) :
    val_main_v48 (F := Ideal) L O R (ix3 b i d)
      = MixSpec.gated (fun e => L (ix3 b ⟨i, by omega⟩ e)) (fun e => R (ix2 1 e)) (fun e => O (ix2 ⟨8192 * b + i, by omega⟩ e)) d := by
  unfold MixSpec.gated
  pointwise [val_main_v48, val_main_v47, val_main_call0_v5, val_main_call0_v4, val_main_call0_v3, val_main_call0_v2, val_main_call0_v1, val_main_call0_v0,
    val_main_call0_cst, val_main_call0_cst_0, val_main_v46, val_main_v45, val_main_v44, val_main_v43, val_main_v42, val_main_v41, val_main_v40, val_main_v39,
    val_main_v38, val_main_v37, val_main_v36, val_main_v35, val_main_v34, val_main_v33, val_main_v32, val_main_v31, val_main_v30, val_main_v29, val_main_v28,
    val_main_v27, val_main_cst, val_main_cst_0, val_main_cst_1]
  simp only [Nat.mul_comm _ 64, Nat.mul_comm _ 8192]
  rfl

theorem joined_apply (b : Fin 2) (i : Fin 8192) (k : Fin 1024) :
    val_main_v53 (F := Ideal) P L A T O R (ix3 b i k)
      = MixSpec.joined (fun e => P (ix2 ⟨8192 * b + i, by omega⟩ e)) (fun e => val_main_v48 (F := Ideal) L O R (ix3 b i e))
          (fun e => A (ix2 ⟨8192 * b + i, by omega⟩ e)) (fun e => T (ix2 ⟨8192 * b + i, by omega⟩ e)) k := by
  unfold MixSpec.joined
  pointwise [val_main_v53, val_main_v49, val_main_v50, val_main_v51, val_main_v52]
  simp only [Nat.mul_comm _ 8192]

theorem projected_apply (b : Fin 2) (i : Fin 8192) (j : Fin 1024) :
    val_main_v61 (F := Ideal) X M P L A T O R W (ix3 b i j)
      = MixSpec.projected (fun a => X (ix2 ⟨8192 * b + i, by omega⟩ a)) (fun a => M (ix4 1 ⟨b, by omega⟩ 5 a))
          (fun k => val_main_v53 (F := Ideal) P L A T O R (ix3 b i k)) (fun k a => W (ix3 1 k a)) j := by
  unfold MixSpec.projected
  pointwise [val_main_v61, val_main_v60, val_main_v59, val_main_v58, val_main_v57, val_main_v56, val_main_v55, val_main_v54, val_main_v17, val_main_v16,
    val_main_v15]
  simp only [Nat.mul_comm _ 8192]

theorem modulated_apply (b : Fin 2) (i : Fin 8192) (j : Fin 1024) :
    val_main_v90 (F := Ideal) X M P L A T O R W N (ix3 b i j)
      = FfnSpec.modulated (fun a => val_main_v61 (F := Ideal) X M P L A T O R W (ix3 b i a)) (fun a => N (ix3 1 2 a))
          (fun a => M (ix4 1 ⟨b, by omega⟩ 6 a)) (fun a => M (ix4 1 ⟨b, by omega⟩ 7 a)) j := by
  unfold FfnSpec.modulated FfnSpec.unit
  pointwise [val_main_v90, val_main_v89, val_main_v88, val_main_v87, val_main_v86, val_main_v85, val_main_v84, val_main_v83, val_main_v82, val_main_v81,
    val_main_v80, val_main_v79, val_main_v78, val_main_v77, val_main_v76, val_main_v75, val_main_v74, val_main_v73, val_main_v72, val_main_v63, val_main_v62,
    val_main_v23, val_main_v22, val_main_v21, val_main_v20, val_main_v19, val_main_v18, val_main_cst_3, val_main_cst_4, val_main_cst_5, val_main_cst_6]

theorem hidden_apply (b : Fin 2) (i : Fin 8192) (f : Fin 2816) :
    val_main_v94 (F := Ideal) X M P L A T O R W N G U (ix3 b i f)
      = FfnSpec.hidden (fun a => val_main_v90 (F := Ideal) X M P L A T O R W N (ix3 b i a)) (fun a f => G (ix4 1 1 a f)) (fun a f => U (ix4 1 1 a f)) f := by
  unfold FfnSpec.hidden
  pointwise [val_main_v94, val_main_v93, val_main_v92, val_main_call1_v5, val_main_call1_v4, val_main_call1_v3, val_main_call1_v2, val_main_call1_v1,
    val_main_call1_v0, val_main_call1_cst, val_main_call1_cst_0, val_main_v91, val_main_v67, val_main_v66, val_main_v65, val_main_v64]
  rfl

theorem half_apply (b : Fin 2) (i : Fin 8192) (j : Fin 1024) :
    val_main_v98 (F := Ideal) X M P L A T O R W N G U D (ix3 b i j)
      = FfnSpec.halfStep (fun a => val_main_v61 (F := Ideal) X M P L A T O R W (ix3 b i a)) (fun a => N (ix3 1 2 a)) (fun a => M (ix4 1 ⟨b, by omega⟩ 6 a))
          (fun a => M (ix4 1 ⟨b, by omega⟩ 7 a)) (fun a => M (ix4 1 ⟨b, by omega⟩ 8 a)) (fun a f => G (ix4 1 1 a f)) (fun a f => U (ix4 1 1 a f))
          (fun f a => D (ix4 1 1 f a)) j := by
  unfold FfnSpec.halfStep
  pointwise [val_main_v98, val_main_v97, val_main_v96, val_main_v95, val_main_v71, val_main_v70, val_main_v69, val_main_v68, val_main_v26, val_main_v25,
    val_main_v24, val_main_cst_2]
  simp only [hidden_apply, modulated_apply]

theorem last_apply (b : Fin 2) (i : Fin 8192) (j : Fin 1024) :
    val_main_v111 (F := Ideal) X M P L A T O R W N G U D Z (ix3 b i j)
      = MixSpec.last (fun a => val_main_v98 (F := Ideal) X M P L A T O R W N G U D (ix3 b i a)) (fun a => Z (ix1 a)) j := by
  unfold MixSpec.last FfnSpec.unit
  pointwise [val_main_v111, val_main_v110, val_main_v109, val_main_v108, val_main_v107, val_main_v106, val_main_v105, val_main_v104, val_main_v103,
    val_main_v102, val_main_v101, val_main_v100, val_main_v99, val_main_cst_7, val_main_cst_8, val_main_cst_9]

end Cert.Reference3Ideal.Mix

end
-- ==== Proof.MixEquation.lean ====
/-
  The second feed-forward kernel's array, given the shape of the result, is the reference's.
-/
module

public import proofs.«01_k».proof.Proof.MixFinal
public import proofs.«01_k».proof.Proof.MixReference

@[expose] public section

noncomputable section

namespace Cert.MixEquation

open Idealize.ShloMosaic Idealize.ShloMosaic.TcCoe Idealize.SL.Sem

/-- The reference's row. -/
theorem reference_row (X : FVec Ideal Cert.Kernel3Ideal.S16896x1024 .f32) (M : FVec Ideal Cert.Kernel3Ideal.S2x8x9x1024 .f32) (P : FVec Ideal Cert.Kernel3Ideal.S16384x256 .f32)
    (L : FVec Ideal Cert.Kernel3Ideal.S2x8448x256 .f32) (A : FVec Ideal Cert.Kernel3Ideal.S16384x256 .bf16) (T : FVec Ideal Cert.Kernel3Ideal.S16384x256 .f32)
    (O : FVec Ideal Cert.Kernel3Ideal.S16896x256 .f32) (R : FVec Ideal Cert.Kernel3Ideal.S2x64 .f32) (W : FVec Ideal Cert.Kernel3Ideal.S2x1024x1024 .f32)
    (N : FVec Ideal Cert.Kernel3Ideal.S2x3x1024 .f32) (G U : FVec Ideal Cert.Kernel3Ideal.S2x2x1024x2816 .f32) (D : FVec Ideal Cert.Kernel3Ideal.S2x2x2816x1024 .f32)
    (Z : FVec Ideal Cert.Kernel3Ideal.S1024 .f32) (b : Fin 2) (i : Fin 8192) (j : Fin 1024) :
    Cert.Reference3Ideal.Read.val_main_v111 (F := Ideal) X M P L A T O R W N G U D Z (ix3 b i j)
      = Cert.Kernel3Ideal.Mix.row X M P L A T O R W N G U D Z b i j := by
  rw [Cert.Reference3Ideal.Mix.last_apply]
  unfold Cert.Kernel3Ideal.Mix.row
  simp only [Cert.Reference3Ideal.Mix.half_apply, Cert.Reference3Ideal.Mix.projected_apply, Cert.Reference3Ideal.Mix.joined_apply,
    Cert.Reference3Ideal.Mix.gated_apply]

theorem result_eq (X : FVec Ideal Cert.Kernel3Ideal.S16896x1024 .f32) (M : FVec Ideal Cert.Kernel3Ideal.S2x8x9x1024 .f32) (P : FVec Ideal Cert.Kernel3Ideal.S16384x256 .f32)
    (L : FVec Ideal Cert.Kernel3Ideal.S2x8448x256 .f32) (A : FVec Ideal Cert.Kernel3Ideal.S16384x256 .bf16) (T : FVec Ideal Cert.Kernel3Ideal.S16384x256 .f32)
    (O : FVec Ideal Cert.Kernel3Ideal.S16896x256 .f32) (R : FVec Ideal Cert.Kernel3Ideal.S2x64 .f32) (W : FVec Ideal Cert.Kernel3Ideal.S2x1024x1024 .f32)
    (N : FVec Ideal Cert.Kernel3Ideal.S2x3x1024 .f32) (G U : FVec Ideal Cert.Kernel3Ideal.S2x2x1024x2816 .f32) (D : FVec Ideal Cert.Kernel3Ideal.S2x2x2816x1024 .f32)
    (Z : FVec Ideal Cert.Kernel3Ideal.S1024 .f32) :
    (shapeCast Cert.Kernel3Ideal.S2x8192x1024 (Cert.Kernel3Ideal.Mix.result X M P L A T O R W N G U D Z)
        Cert.Kernel3Ideal.Gen.shapeCasts_S16384x1024_S2x8192x1024 : FVec Ideal Cert.Kernel3Ideal.S2x8192x1024 .f32)
      = Cert.Reference3Ideal.Read.val_main_v111 (F := Ideal) X M P L A T O R W N G U D Z := by
  refine funext fun (y : (⟨3, ![2, 8192, 1024]⟩ : Shape).Idx) => ?_
  have hy : y = ix3 (y 0 : Fin 2) (y 1 : Fin 8192) (y 2 : Fin 1024) := by funext a; fin_cases a <;> rfl
  rw [hy]
  generalize (y 0 : Fin 2) = b
  generalize (y 1 : Fin 8192) = i
  generalize (y 2 : Fin 1024) = j
  refine Eq.trans ?_ (reference_row X M P L A T O R W N G U D Z b i j).symm
  pointwise [Cert.Kernel3Ideal.Mix.result]
  refine congrArg₂ (fun (b : Fin 2) (i : Fin 8192) => Cert.Kernel3Ideal.Mix.row X M P L A T O R W N G U D Z b i j) (Fin.ext ?_) (Fin.ext ?_)
  · dsimp only; omega
  · dsimp only; omega

end Cert.MixEquation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.AttnEquation
public import proofs.«01_k».proof.Proof.FfnEquation
public import proofs.«01_k».proof.Proof.MixEquation
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The attention's equation of the two programs, at every memory that meets the precondition. -/
theorem attention : algebraic_KernelIdeal_ReferenceIdeal_pre_finite_and_ones (hKernelIdeal := Cert.KernelIdeal.Gen.facts)
    (hReferenceIdeal := Cert.ReferenceIdeal.Gen.facts) (hPre_finite_and_ones := Cert.Pre_finite_and_ones.facts) := by
  intro m g m' g' hpre hagree
  refine ⟨fun c => Cert.KernelIdeal.Attn.result (Cert.KernelIdeal.Attn.argQ m c) (Cert.KernelIdeal.Attn.argK m c) (Cert.KernelIdeal.Attn.argV m c), ?_, ?_⟩
  · refine (θ_run _ _ _).mono (fun r h c => ?_) (Cert.KernelIdeal.Value.run_blocks m g)
    exact ⟨(h c).1.trans (Cert.KernelIdeal.Attn.final m c), (h c).2⟩
  · refine (θ_run _ _ _).mono (fun r h c => ?_) (Cert.ReferenceIdeal.Value.run m' g')
    refine ⟨(h c).1.trans ?_, (h c).2⟩
    letI : Cert.Pre_finite_and_ones.Facts := Cert.Pre_finite_and_ones.facts
    obtain ⟨hq, hk, hv⟩ := Cert.Pre_finite_and_ones.decode _ _ _ (hpre c)
    rw [Cert.ReferenceIdeal.Read.val_main_v40_eq, (hagree c).1, (hagree c).2.1, (hagree c).2.2]
    exact (Cert.AttnSpec.equation _ _ _ hq hk hv).symm

/-- The reference runs to the end, keeps its arguments, and has no counter that could be left standing. -/
theorem attention_reference_frame : quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run m ρ)

/-- The first feed-forward call's equation, at every memory. -/
theorem ffn : algebraic_Kernel2Ideal_Reference2Ideal (hKernel2Ideal := Cert.Kernel2Ideal.Gen.facts) (hReference2Ideal := Cert.Reference2Ideal.Gen.facts) := by
  intro m g m' g' _ hagree
  refine ⟨fun c => Cert.Kernel2Ideal.Ffn.result (Cert.Kernel2Ideal.Ffn.argX m c) (Cert.Kernel2Ideal.Ffn.argC m c) (Cert.Kernel2Ideal.Ffn.argM m c)
    (Cert.Kernel2Ideal.Ffn.argN m c) (Cert.Kernel2Ideal.Ffn.argG m c) (Cert.Kernel2Ideal.Ffn.argU m c) (Cert.Kernel2Ideal.Ffn.argD m c), ?_, ?_⟩
  · refine (θ_run _ _ _).mono (fun r h c => ?_) (Cert.Kernel2Ideal.Value.run_blocks m g)
    exact ⟨(h c).1.trans (Cert.Kernel2Ideal.Ffn.final m c), (h c).2⟩
  · refine (θ_run _ _ _).mono (fun r h c => ?_) (Cert.Reference2Ideal.Value.run m' g')
    refine ⟨(h c).1.trans ?_, (h c).2⟩
    obtain ⟨h0, h1, h2, h3, h4, h5, h6⟩ := hagree c
    rw [Cert.Reference2Ideal.Read.val_main_v88_eq, h0, h1, h2, h3, h4, h5, h6]
    exact (Cert.FfnSpec.equation _ _ _ _ _ _ _).symm

theorem ffn_reference_frame : quiescent_Reference2Ideal (hReference2Ideal := Cert.Reference2Ideal.Gen.facts) := fun m ρ _ =>
  (θ_run _ _ _).mono (fun r h => ⟨fun c => (h c).2, sem_eq_zero_of_no_sems (by decide) r.2⟩) (Cert.Reference2Ideal.Value.run m ρ)

/-- The out-projection and second feed-forward call's equation, at every memory. -/
theorem mix : algebraic_Kernel3Ideal_Reference3Ideal (hKernel3Ideal := Cert.Kernel3Ideal.Gen.facts) (hReference3Ideal := Cert.Reference3Ideal.Gen.facts) := by
  intro m g m' g' _ hagree
  refine ⟨fun c => (shapeCast Cert.Kernel3Ideal.S2x8192x1024 (Cert.Kernel3Ideal.Mix.result (Cert.Kernel3Ideal.Mix.argX m c) (Cert.Kernel3Ideal.Mix.argM m c)
    (Cert.Kernel3Ideal.Mix.argP m c) (Cert.Kernel3Ideal.Mix.argL m c) (Cert.Kernel3Ideal.Mix.argA m c) (Cert.Kernel3Ideal.Mix.argT m c)
    (Cert.Kernel3Ideal.Mix.argO m c) (Cert.Kernel3Ideal.Mix.argR m c) (Cert.Kernel3Ideal.Mix.argW m c) (Cert.Kernel3Ideal.Mix.argN m c)
    (Cert.Kernel3Ideal.Mix.argG m c) (Cert.Kernel3Ideal.Mix.argU m c) (Cert.Kernel3Ideal.Mix.argD m c) (Cert.Kernel3Ideal.Mix.argZ m c))
    Cert.Kernel3Ideal.Gen.shapeCasts_S16384x1024_S2x8192x1024 : FVec Ideal Cert.Kernel3Ideal.S2x8192x1024 .f32), ?_, ?_⟩
  · refine (θ_run _ _ _).mono (fun r h c => ?_) (Cert.Kernel3Ideal.Mix.run m g)
    refine ⟨(h c).1.trans ?_, (h c).2⟩
    rw [Cert.Kernel3Ideal.Mix.final]
  · refine (θ_run _ _ _).mono (fun r h c => ?_) (Cert.Reference3Ideal.Value.run m' g')
    refine ⟨(h c).1.trans ?_, (h c).2⟩
    obtain ⟨h0, h1, h2, h3, h4, h5, h6, h7, h8, h9, h10, h11, h12, h13⟩ := hagree c
    rw [Cert.Reference3Ideal.Read.val_main_v111_eq]
    unfold StableHlo.launchContents
    rw [h0, h1, h2, h3, h4, h5, h6, h7, h8, h9, h10, h11, h12, h13]
    exact (Cert.MixEquation.result_eq _ _ _ _ _ _ _ _ _ _ _ _ _ _).symm

theorem mix_reference_frame : quiescent_Reference3Ideal (hReference3Ideal := Cert.Reference3Ideal.Gen.facts) := fun m ρ _ =>
  (θ_run _ _ _).mono (fun r h => ⟨fun c => (h c).2, sem_eq_zero_of_no_sems (by decide) r.2⟩) (Cert.Reference3Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite_and_ones.facts,
  fun m ρ _ => Cert.Kernel.Gen.frame m ρ, fun m ρ _ => Cert.KernelIdeal.Gen.frame m ρ, fun m ρ _ => Cert.KernelIdeal.Gen.frame m ρ,
  attention_reference_frame, fun m ρ _ => attention_reference_frame m ρ trivial,
  fun m ρ _ => Cert.Kernel2.Gen.frame m ρ, fun m ρ _ => Cert.Kernel2Ideal.Gen.frame m ρ, ffn_reference_frame,
  fun m ρ _ => Cert.Kernel3.Gen.frame m ρ, fun m ρ _ => Cert.Kernel3Ideal.Gen.frame m ρ, mix_reference_frame,
  trivial, attention, trivial, ffn, trivial, mix⟩

end Cert.Proof

end
